-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "km1" .f32 0x3D16AEF4#32 ((165678164585405 / 4503599627370496 : ℝ) : EReal)
  ∧ IdealRules.named_const.Statement Cert.KernelIdeal.κ "km2" .f32 0x3CDDBBBB#32 ((121899186475281 / 4503599627370496 : ℝ) : EReal)
  ∧ IdealRules.named_const.Statement Cert.KernelIdeal.κ "km3" .f32 0x3C74B6A1#32 ((33633153711655 / 2251799813685248 : ℝ) : EReal)
  ∧ IdealRules.named_const.Statement Cert.KernelIdeal.κ "km4" .f32 0x3BF01117#32 ((65989046213291 / 9007199254740992 : ℝ) : EReal)
  ∧ IdealRules.named_const.Statement Cert.KernelIdeal.κ "km5" .f32 0x3B5CC9FE#32 ((7234815 / 2147483648 : ℝ) : EReal)
  ∧ IdealRules.named_const.Statement Cert.KernelIdeal.κ "km6" .f32 0x3AC2EFDF#32 ((53583874863235 / 36028797018963968 : ℝ) : EReal)
  ∧ IdealRules.named_const.Statement Cert.KernelIdeal.κ "km7" .f32 0x3A2754C0#32 ((45995610973653 / 72057594037927936 : ℝ) : EReal)
  ∧ IdealRules.named_const.Statement Cert.KernelIdeal.κ "km8" .f32 0x398CB407#32 ((19338103960173 / 72057594037927936 : ℝ) : EReal)
  ∧ IdealRules.named_const.Statement Cert.KernelIdeal.κ "km9" .f32 0x38E8ED9E#32 ((64026814743779 / 576460752303423488 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x4096 : Shape := ⟨2, ![256, 4096]⟩
abbrev S4096x10 : Shape := ⟨2, ![4096, 10]⟩
abbrev S256x256 : Shape := ⟨2, ![256, 256]⟩
abbrev S256x10 : Shape := ⟨2, ![256, 10]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S10x4096 : Shape := ⟨2, ![10, 4096]⟩
abbrev S10x8x512 : Shape := ⟨3, ![10, 8, 512]⟩
abbrev S1x1 : Shape := ⟨2, ![1, 1]⟩
abbrev S1x8x512 : Shape := ⟨3, ![1, 8, 512]⟩
abbrev S8x512 : Shape := ⟨2, ![8, 512]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x4096, .f32⟩
  | .hbm, ⟨3, _⟩ => ⟨S256x4096, .f32⟩
  | .hbm, ⟨4, _⟩ => ⟨S4096x10, .f32⟩
  | .hbm, ⟨5, _⟩ => ⟨S4096x10, .f32⟩
  | .hbm, ⟨6, _⟩ => ⟨S10x4096, .f32⟩
  | .hbm, ⟨7, _⟩ => ⟨S10x8x512, .f32⟩
  | .hbm, ⟨8, _⟩ => ⟨S10x4096, .f32⟩
  | .hbm, ⟨9, _⟩ => ⟨S10x8x512, .f32⟩
  | .hbm, ⟨10, _⟩ => ⟨S1x1, .f32⟩
  | .hbm, ⟨11, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x4096, .f32⟩
  | .local _ .vmem, ⟨3, _⟩ => ⟨S256x256, .f32⟩
  | .local _ .vmem, ⟨4, _⟩ => ⟨S256x256, .f32⟩
  | .local _ .vmem, ⟨5, _⟩ => ⟨S256x4096, .f32⟩
  | .local _ .vmem, ⟨6, _⟩ => ⟨S256x10, .f32⟩
  | .local _ .vmem, ⟨7, _⟩ => ⟨S256x10, .f32⟩
  | .local _ .vmem, ⟨8, _⟩ => ⟨S256x10, .f32⟩
  | .local _ .vmem, ⟨9, _⟩ => ⟨S256x10, .f32⟩
  | .local _ .vmem, ⟨10, _⟩ => ⟨S10x8x512, .f32⟩
  | .local _ .vmem, ⟨11, _⟩ => ⟨S10x8x512, .f32⟩
  | .local _ .vmem, ⟨12, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c50_i32 : BitVec 32 := 50#32
  let v52 : BitVec 32 := Scalar.addi c0_i32 c50_i32
  let c1_i32 : BitVec 32 := 1#32
  ⟨c0_i32, v52, c1_i32⟩
abbrev stage1_0 : Fin 1 → Memref sig .tc .vmem S10x8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10x8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "km1" => some ((165678164585405 / 4503599627370496 : ℝ) : EReal)
  | "km2" => some ((121899186475281 / 4503599627370496 : ℝ) : EReal)
  | "km3" => some ((33633153711655 / 2251799813685248 : ℝ) : EReal)
  | "km4" => some ((65989046213291 / 9007199254740992 : ℝ) : EReal)
  | "km5" => some ((7234815 / 2147483648 : ℝ) : EReal)
  | "km6" => some ((53583874863235 / 36028797018963968 : ℝ) : EReal)
  | "km7" => some ((45995610973653 / 72057594037927936 : ℝ) : EReal)
  | "km8" => some ((19338103960173 / 72057594037927936 : ℝ) : EReal)
  | "km9" => some ((64026814743779 / 576460752303423488 : ℝ) : EReal)
  | _ => none
-- ==== ReferenceIdeal.lean ====
abbrev S4096x256 : Shape := ⟨2, ![4096, 256]⟩
abbrev S10x10 : Shape := ⟨2, ![10, 10]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩
abbrev S4096x11 : Shape := ⟨2, ![4096, 11]⟩
abbrev S4096x10 : Shape := ⟨2, ![4096, 10]⟩
abbrev S10 : Shape := ⟨1, ![10]⟩
abbrev S10x4096 : Shape := ⟨2, ![10, 4096]⟩
abbrev S4096x10x1 : Shape := ⟨3, ![4096, 10, 1]⟩
abbrev S1x10x10 : Shape := ⟨3, ![1, 10, 10]⟩
abbrev S4096x10x10 : Shape := ⟨3, ![4096, 10, 10]⟩
abbrev S4096x1x10 : Shape := ⟨3, ![4096, 1, 10]⟩

abbrev nBuf : Space → Nat
  | .hbm => 120
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S10x10, .f32⟩
  | .hbm, ⟨3, _⟩ => ⟨S10x10, .f32⟩
  | .hbm, ⟨4, _⟩ => ⟨S10x10, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S256x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S256x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x11, .f32⟩
  | .hbm, ⟨49, _⟩ => ⟨S4096x11, .i32⟩
  | .hbm, ⟨50, _⟩ => ⟨S4096x11, .f32⟩
  | .hbm, ⟨51, _⟩ => ⟨S4096x10, .f32⟩
  | .hbm, ⟨52, _⟩ => ⟨S4096x4096, .f32⟩
  | .hbm, ⟨53, _⟩ => ⟨S4096x11, .f32⟩
  | .hbm, ⟨54, _⟩ => ⟨S4096x11, .i32⟩
  | .hbm, ⟨55, _⟩ => ⟨S4096x11, .f32⟩
  | .hbm, ⟨56, _⟩ => ⟨S4096x10, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x10, .f32⟩
  | .hbm, ⟨64, _⟩ => ⟨S4096x10, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x10, .f32⟩
  | .hbm, ⟨72, _⟩ => ⟨S4096x10, .f32⟩
  | .hbm, ⟨73, _⟩ => ⟨S_, .f32⟩
  | .hbm, ⟨74, _⟩ => ⟨S10, .f32⟩
  | .hbm, ⟨75, _⟩ => ⟨S_, .f32⟩
  | .hbm, ⟨76, _⟩ => ⟨S10, .f32⟩
  | .hbm, ⟨77, _⟩ => ⟨S4096x10, .f32⟩
  | .hbm, ⟨78, _⟩ => ⟨S4096x10, .f32⟩
  | .hbm, ⟨79, _⟩ => ⟨S_, .i32⟩
  | .hbm, ⟨80, _⟩ => ⟨S10x10, .f32⟩
  | .hbm, ⟨81, _⟩ => ⟨S4096x10, .f32⟩
  | .hbm, ⟨82, _⟩ => ⟨S10x10, .f32⟩
  | .hbm, ⟨83, _⟩ => ⟨S4096x10, .f32⟩
  | .hbm, ⟨84, _⟩ => ⟨S_, .i32⟩
  | .hbm, ⟨85, _⟩ => ⟨S4096x10, .f32⟩
  | .hbm, ⟨86, _⟩ => ⟨S4096x10, .f32⟩
  | .hbm, ⟨87, _⟩ => ⟨S_, .i32⟩
  | .hbm, ⟨88, _⟩ => ⟨S_, .i1⟩
  | .hbm, ⟨89, _⟩ => ⟨S10x4096, .f32⟩
  | .hbm, ⟨90, _⟩ => ⟨S_, .f32⟩
  | .hbm, ⟨91, _⟩ => ⟨S10x4096, .f32⟩
  | .hbm, ⟨92, _⟩ => ⟨S10x4096, .f32⟩
  | .hbm, ⟨93, _⟩ => ⟨S4096x10, .f32⟩
  | .hbm, ⟨94, _⟩ => ⟨S4096x10, .f32⟩
  | .hbm, ⟨95, _⟩ => ⟨S10x4096, .f32⟩
  | .hbm, ⟨96, _⟩ => ⟨S_, .f32⟩
  | .hbm, ⟨97, _⟩ => ⟨S10x4096, .f32⟩
  | .hbm, ⟨98, _⟩ => ⟨S10x4096, .f32⟩
  | .hbm, ⟨99, _⟩ => ⟨S4096x10, .f32⟩
  | .hbm, ⟨100, _⟩ => ⟨S4096x10, .f32⟩
  | .hbm, ⟨101, _⟩ => ⟨S_, .i32⟩
  | .hbm, ⟨102, _⟩ => ⟨S_, .i32⟩
  | .hbm, ⟨103, _⟩ => ⟨S4096x10x1, .f32⟩
  | .hbm, ⟨104, _⟩ => ⟨S1x10x10, .f32⟩
  | .hbm, ⟨105, _⟩ => ⟨S4096x10x10, .f32⟩
  | .hbm, ⟨106, _⟩ => ⟨S4096x10x10, .f32⟩
  | .hbm, ⟨107, _⟩ => ⟨S4096x10x10, .f32⟩
  | .hbm, ⟨108, _⟩ => ⟨S4096x1x10, .f32⟩
  | .hbm, ⟨109, _⟩ => ⟨S4096x10x10, .f32⟩
  | .hbm, ⟨110, _⟩ => ⟨S4096x10x10, .f32⟩
  | .hbm, ⟨111, _⟩ => ⟨S1x10x10, .f32⟩
  | .hbm, ⟨112, _⟩ => ⟨S4096x10x10, .f32⟩
  | .hbm, ⟨113, _⟩ => ⟨S4096x10x10, .f32⟩
  | .hbm, ⟨114, _⟩ => ⟨S_, .f32⟩
  | .hbm, ⟨115, _⟩ => ⟨S4096, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_values : Ref sig .tc := ⟨.hbm, 48, rfl⟩
abbrev main_indices : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_values_10 : Ref sig .tc := ⟨.hbm, 53, rfl⟩
abbrev main_indices_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_v56_0 : Ref sig .tc := ⟨.hbm, 80, rfl⟩
abbrev main_v56_1 : Ref sig .tc := ⟨.hbm, 81, rfl⟩
abbrev main_v56_2 : Ref sig .tc := ⟨.hbm, 82, rfl⟩
abbrev main_v56_3 : Ref sig .tc := ⟨.hbm, 83, rfl⟩
abbrev main_v56_4 : Ref sig .tc := ⟨.hbm, 84, rfl⟩
abbrev main_v56_5 : Ref sig .tc := ⟨.hbm, 85, rfl⟩
abbrev main_v56_6 : Ref sig .tc := ⟨.hbm, 86, rfl⟩
abbrev main_while0c_c_27 : Ref sig .tc := ⟨.hbm, 87, rfl⟩
abbrev main_while0c_v71 : Ref sig .tc := ⟨.hbm, 88, rfl⟩
abbrev main_while0b_v71 : Ref sig .tc := ⟨.hbm, 89, rfl⟩
abbrev main_while0b_cst_27 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_cst_28 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_c_29 : Ref sig .tc := ⟨.hbm, 101, rfl⟩
abbrev main_while0b_v81 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_18 : Ref sig .tc := ⟨.hbm, 114, rfl⟩
abbrev main_v68 : Ref sig .tc := ⟨.hbm, 115, rfl⟩
abbrev main_cst_19 : Ref sig .tc := ⟨.hbm, 116, rfl⟩
abbrev main_v69 : Ref sig .tc := ⟨.hbm, 117, rfl⟩
abbrev main_cst_20 : Ref sig .tc := ⟨.hbm, 118, rfl⟩
abbrev main_v70 : Ref sig .tc := ⟨.hbm, 119, rfl⟩

abbrev nD : Nat := 1
abbrev τ : Topo := Topo.v7x

variable {F : FTy → Type} [FloatOps F]

abbrev main_while0_count : Scf.Loop 32 := ⟨0#32, 50#32, 1#32⟩
-- ==== Proof.KernelIdealRun.lean ====
/-
  The kernel program's run, at any float interpretation: what one trip of the Sinkhorn loop carries on, what the two
  kernels store, the loop invariant, the two kernel bodies run once, the pipelines' proof data, and @main run to its end
  with every array outside the kernels at contents written out in full.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.Value
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)

variable {F : FTy → Type} [FloatOps F] [Named F]

/-- The resource algebra of the run: the pipeline library's own. -/
abbrev UU (nD : Nat) (τ : Topo) : Type := UR sig nD τ
/-- No loop of the program needs a variant. -/
abbrev 𝒱₀ : Variants := Variants.none

local notation "𝕄" => MT nD τ sig Unit (Elt F) ℕ (UU nD τ) ℕ

/-! ## What the kernels compute, as functions of what they load -/

/-- The first result of the nearest-neighbour kernel at one grid point: the normalised ten smallest distances of the
    rows of `v0` from the columns of `v1`. -/
def knnA (v0 : FVec F S256x256 .f32) (v1 : FVec F S256x4096 .f32) : FVec F S256x10 .f32 :=
  let v19 : IVec S256x4096 32 := iota .tc S256x4096 32 [1] iota_S256x4096_d1_w32
  let cst_13 : F .f32 := Scalar.ofBits .f32 0x7F800000#32
  let v31 : FVec F S256x4096 .f32 := k0_pay2 v0 v1
  let v33 : FVec F S256x1 .f32 := k0_pay3 v0 v1
  let v41 : IVec S256x4096 1 := k0_pay4 v0 v1
  let v45 : FVec F S256x1 .f32 := k0_pay6 v31 v41 cst_13
  let v57 : FVec F S256x1 .f32 := k0_pay8 v19 v31 v41 cst_13
  let v69 : FVec F S256x1 .f32 := k0_pay10 v19 v31 v41 cst_13
  let v79 : FVec F S256x4096 .f32 := k0_pay11 v19 v31 v41 cst_13
  let v81 : FVec F S256x1 .f32 := k0_pay12 v19 v31 v41 cst_13
  let v86 : IVec S256 32 := k0_pay13 v19 v31 v41 cst_13
  let v93 : FVec F S256x1 .f32 := k0_pay15 v19 v79 v86
  let v105 : FVec F S256x1 .f32 := k0_pay17 v19 v79 v86
  let v117 : FVec F S256x1 .f32 := k0_pay19 v19 v79 v86
  let v127 : FVec F S256x4096 .f32 := k0_pay20 v19 v79 v86
  let v129 : FVec F S256x1 .f32 := k0_pay21 v19 v79 v86
  let v131 : IVec S256x4096 1 := k0_pay22 v19 v79 v86
  k0_pay23 v19 v33 v45 v57 v69 v81 v93 v105 v117 v127 v129 v131 4096#32

/-- The second result of the nearest-neighbour kernel at one grid point, of the second pair of operands. -/
def knnB (v150 : FVec F S256x256 .f32) (v151 : FVec F S256x4096 .f32) : FVec F S256x10 .f32 :=
  let v169 : IVec S256x4096 32 := iota .tc S256x4096 32 [1] iota_S256x4096_d1_w32
  let v168 : FVec F S256x4096 .f32 := k0_pay24 v150 v151
  let v173 : IVec S256x4096 1 := k0_pay25 v150 v151
  let v183 : FVec F S256x1 .f32 := k0_pay27 v168 v169 v173
  let v195 : FVec F S256x1 .f32 := k0_pay29 v168 v169 v173
  let v207 : FVec F S256x1 .f32 := k0_pay31 v168 v169 v173
  let v217 : FVec F S256x4096 .f32 := k0_pay32 v168 v169 v173
  let v219 : FVec F S256x1 .f32 := k0_pay33 v217
  let v231 : FVec F S256x1 .f32 := k0_pay35 v169 v217
  let v243 : FVec F S256x1 .f32 := k0_pay37 v169 v217
  let v253 : FVec F S256x4096 .f32 := k0_pay38 v169 v217
  let v255 : FVec F S256x1 .f32 := k0_pay39 v169 v217
  let v263 : IVec S256x4096 1 := k0_pay40 v169 v217
  k0_pay1 v169 v183 v195 v207 v219 v231 v243 v253 v255 v263

/-- The new `v` of one Sinkhorn trip, from the target marginal's rows and the old `u`. -/
def tripV (v21 v23 : FVec F S8x512 .f32) (v24 v26 v28 v30 v32 v34 v36 v38 : Vec F S1x8x512 .f32) (arg4 : FVec F S10x8x512 .f32) : FVec F S10x8x512 .f32 :=
  let v638 : FVec F S8x512 .f32 := k1_pay2 arg4
  let v641 : FVec F S8x512 .f32 := k1_pay3 v21 v638
  let v685 : FVec F S8x512 .f32 := k1_pay4 arg4
  let v687 : FVec F S8x512 .f32 := k1_pay5 arg4
  let cst_175 : F .f32 := Scalar.ofBits .f32 0x39AFE108#32
  let v693 : FVec F S8x512 .f32 := k1_pay6 v23 v685 v687 cst_175
  let v737 : FVec F S8x512 .f32 := k1_pay7 arg4
  let v745 : FVec F S8x512 .f32 := k1_pay8 (k1_pay70 v24) arg4 v737
  let v784 : FVec F S8x512 .f32 := k1_pay9 arg4
  let v786 : FVec F S8x512 .f32 := k1_pay10 arg4
  let cst_196 : F .f32 := Scalar.ofBits .f32 0x3BDCC9FE#32
  let v797 : FVec F S8x512 .f32 := k1_pay11 (k1_pay71 v26) arg4 v784 v786 cst_196
  let v836 : FVec F S8x512 .f32 := k1_pay12 arg4
  let v849 : FVec F S8x512 .f32 := k1_pay13 (k1_pay72 v28) arg4 v836
  let v883 : FVec F S8x512 .f32 := k1_pay14 arg4
  let v885 : FVec F S8x512 .f32 := k1_pay15 arg4
  let cst_217 : F .f32 := Scalar.ofBits .f32 0x3E0A9555#32
  let v901 : FVec F S8x512 .f32 := k1_pay16 (k1_pay73 v30) arg4 v883 v885 cst_217
  let v935 : FVec F S8x512 .f32 := k1_pay17 arg4
  let v953 : FVec F S8x512 .f32 := k1_pay18 (k1_pay74 v32) arg4 v935
  let v982 : FVec F S8x512 .f32 := k1_pay19 arg4
  let v984 : FVec F S8x512 .f32 := k1_pay20 arg4
  let cst_238 : F .f32 := Scalar.ofBits .f32 0x3EBC5AB1#32
  let v1005 : FVec F S8x512 .f32 := k1_pay21 (k1_pay75 v34) arg4 v982 v984 cst_238
  let v1034 : FVec F S8x512 .f32 := k1_pay22 arg4
  let v1057 : FVec F S8x512 .f32 := k1_pay23 (k1_pay76 v36) arg4 v1034
  let v1081 : FVec F S8x512 .f32 := k1_pay24 arg4
  let v1083 : FVec F S8x512 .f32 := k1_pay25 arg4
  let cst_259 : F .f32 := Scalar.ofBits .f32 0x3C960AAE#32
  k1_pay26 (k1_pay77 v38) arg4 v641 v693 v745 v797 v849 v901 v953 v1005 v1057 v1081 v1083 cst_259

/-- The second part of one Sinkhorn trip, the new `u`, with the partial sums `v1134`, `v1135` of the new `v` (`v1120`)
    the first part already formed. -/
def tripU (v1 v3 v5 v7 v9 v11 v13 v15 v17 v19 : FVec F S8x512 .f32) (v1120 : FVec F S10x8x512 .f32) (v1134 : FVec F S8x512 .f32) (v1135 : FVec F S1x8x512 .f32) : FVec F S10x8x512 .f32 :=
  let v1172 : FVec F S8x512 .f32 := k1_pay29 v1 v1120 v1134 v1135
  let v1181 : FVec F S8x512 .f32 := k1_pay30 v1120
  let v1183 : FVec F S8x512 .f32 := k1_pay31 v1120
  let v1184 : FVec F S8x512 .f32 := k1_pay32 (F := F)
  let v1224 : FVec F S8x512 .f32 := k1_pay33 v3 v1120 v1181 v1183 v1184
  let v1233 : FVec F S8x512 .f32 := k1_pay34 v1120
  let v1234 : FVec F S1x8x512 .f32 := k1_pay35 v1120
  let v1276 : FVec F S8x512 .f32 := k1_pay36 v5 v1120 v1233 v1234
  let v1280 : FVec F S8x512 .f32 := k1_pay37 v1120
  let v1282 : FVec F S8x512 .f32 := k1_pay38 v1120
  let v1283 : FVec F S8x512 .f32 := k1_pay39 (F := F)
  let v1328 : FVec F S8x512 .f32 := k1_pay40 v7 v1120 v1280 v1282 v1283
  let v1332 : FVec F S8x512 .f32 := k1_pay41 v1120
  let v1333 : FVec F S1x8x512 .f32 := k1_pay42 v1120
  let v1380 : FVec F S8x512 .f32 := k1_pay43 v9 v1120 v1332 v1333
  let v1382 : FVec F S8x512 .f32 := k1_pay44 v1120
  let cst_320 : F .f32 := Scalar.ofBits .f32 0x3BDCC9FE#32
  let v1432 : FVec F S8x512 .f32 := k1_pay45 v11 v1120 v1382 cst_320
  let v1481 : FVec F S8x512 .f32 := k1_pay46 v1120
  let cst_341 : F .f32 := Scalar.ofBits .f32 0x2EDBE6FF#32
  let v1484 : FVec F S8x512 .f32 := k1_pay47 v13 v1481 cst_341
  let v1528 : FVec F S8x512 .f32 := k1_pay48 v1120
  let v1530 : FVec F S8x512 .f32 := k1_pay49 v1120
  let v1531 : FVec F S8x512 .f32 := k1_pay50 (F := F)
  let v1536 : FVec F S8x512 .f32 := k1_pay51 v15 v1528 v1530 v1531
  let v1580 : FVec F S8x512 .f32 := k1_pay52 v1120
  let v1581 : FVec F S1x8x512 .f32 := k1_pay53 v1120
  let v1588 : FVec F S8x512 .f32 := k1_pay54 v17 v1580 v1581
  let v1627 : FVec F S8x512 .f32 := k1_pay55 v1120
  let v1629 : FVec F S8x512 .f32 := k1_pay56 v1120
  let v1630 : FVec F S8x512 .f32 := k1_pay57 (F := F)
  k1_pay79 v19 v1120 v1172 v1224 v1276 v1328 v1380 v1432 v1484 v1536 v1588 v1627 v1629 v1630

/-- One Sinkhorn trip on the carried `(u, v)`. -/
def trip (v1 v3 v5 v7 v9 v11 v13 v15 v17 v19 : FVec F S8x512 .f32) (v21 v23 : FVec F S8x512 .f32) (v24 v26 v28 v30 v32 v34 v36 v38 : Vec F S1x8x512 .f32) (acc : FVec F S10x8x512 .f32 × FVec F S10x8x512 .f32) :
    FVec F S10x8x512 .f32 × FVec F S10x8x512 .f32 :=
  let arg4 : FVec F S10x8x512 .f32 := acc.1
  let v638 : FVec F S8x512 .f32 := k1_pay2 arg4
  let v641 : FVec F S8x512 .f32 := k1_pay3 v21 v638
  let v685 : FVec F S8x512 .f32 := k1_pay4 arg4
  let v687 : FVec F S8x512 .f32 := k1_pay5 arg4
  let cst_175 : F .f32 := Scalar.ofBits .f32 0x39AFE108#32
  let v693 : FVec F S8x512 .f32 := k1_pay6 v23 v685 v687 cst_175
  let v737 : FVec F S8x512 .f32 := k1_pay7 arg4
  let v745 : FVec F S8x512 .f32 := k1_pay8 (k1_pay70 v24) arg4 v737
  let v784 : FVec F S8x512 .f32 := k1_pay9 arg4
  let v786 : FVec F S8x512 .f32 := k1_pay10 arg4
  let cst_196 : F .f32 := Scalar.ofBits .f32 0x3BDCC9FE#32
  let v797 : FVec F S8x512 .f32 := k1_pay11 (k1_pay71 v26) arg4 v784 v786 cst_196
  let v836 : FVec F S8x512 .f32 := k1_pay12 arg4
  let v849 : FVec F S8x512 .f32 := k1_pay13 (k1_pay72 v28) arg4 v836
  let v883 : FVec F S8x512 .f32 := k1_pay14 arg4
  let v885 : FVec F S8x512 .f32 := k1_pay15 arg4
  let cst_217 : F .f32 := Scalar.ofBits .f32 0x3E0A9555#32
  let v901 : FVec F S8x512 .f32 := k1_pay16 (k1_pay73 v30) arg4 v883 v885 cst_217
  let v935 : FVec F S8x512 .f32 := k1_pay17 arg4
  let v953 : FVec F S8x512 .f32 := k1_pay18 (k1_pay74 v32) arg4 v935
  let v982 : FVec F S8x512 .f32 := k1_pay19 arg4
  let v984 : FVec F S8x512 .f32 := k1_pay20 arg4
  let cst_238 : F .f32 := Scalar.ofBits .f32 0x3EBC5AB1#32
  let v1005 : FVec F S8x512 .f32 := k1_pay21 (k1_pay75 v34) arg4 v982 v984 cst_238
  let v1034 : FVec F S8x512 .f32 := k1_pay22 arg4
  let v1057 : FVec F S8x512 .f32 := k1_pay23 (k1_pay76 v36) arg4 v1034
  let v1081 : FVec F S8x512 .f32 := k1_pay24 arg4
  let v1083 : FVec F S8x512 .f32 := k1_pay25 arg4
  let cst_259 : F .f32 := Scalar.ofBits .f32 0x3C960AAE#32
  let v1120 : FVec F S10x8x512 .f32 := k1_pay26 (k1_pay77 v38) arg4 v641 v693 v745 v797 v849 v901 v953 v1005 v1057 v1081 v1083 cst_259
  let v1134 : FVec F S8x512 .f32 := k1_pay27 (k1_pay77 v38) arg4 v641 v693 v745 v797 v849 v901 v953 v1005 v1057 v1081 v1083 cst_259
  let v1135 : FVec F S1x8x512 .f32 := k1_pay28 (k1_pay77 v38) arg4 v641 v693 v745 v797 v849 v901 v953 v1005 v1057 v1081 v1083 cst_259
  (tripU v1 v3 v5 v7 v9 v11 v13 v15 v17 v19 v1120 v1134 v1135, v1120)

/-- What the Sinkhorn kernel stores, from the loop's final `(u, v)`. -/
def sinkOut (v53_0 v53_1 : FVec F S10x8x512 .f32) : FVec F S1x1 .f32 :=
  let v55 : FVec F S8x512 .f32 := k1_pay80 v53_1
  let v105 : FVec F S8x512 .f32 := k1_pay81 v53_0 v53_1 v55
  let v154 : FVec F S8x512 .f32 := k1_pay82 v53_1
  let v155 : FVec F S1x8x512 .f32 := k1_pay83 v53_0
  let v158 : FVec F S8x512 .f32 := k1_pay84 v105 v154 v155
  let v202 : FVec F S8x512 .f32 := k1_pay85 v53_1
  let v204 : FVec F S8x512 .f32 := k1_pay86 v53_1
  let v205 : FVec F S8x512 .f32 := k1_pay87 (F := F)
  let v211 : FVec F S8x512 .f32 := k1_pay88 v53_0 v158 v202 v204 v205
  let v255 : FVec F S8x512 .f32 := k1_pay89 v53_1
  let v256 : FVec F S1x8x512 .f32 := k1_pay90 v53_1
  let v264 : FVec F S8x512 .f32 := k1_pay91 v53_0 v211 v255 v256
  let v303 : FVec F S8x512 .f32 := k1_pay92 v53_1
  let v305 : FVec F S8x512 .f32 := k1_pay93 v53_1
  let v306 : FVec F S8x512 .f32 := k1_pay94 (F := F)
  let v317 : FVec F S8x512 .f32 := k1_pay95 v53_0 v53_1 v264 v303 v305 v306
  let v356 : FVec F S8x512 .f32 := k1_pay96 v53_1
  let v357 : FVec F S1x8x512 .f32 := k1_pay97 v53_1
  let v370 : FVec F S8x512 .f32 := k1_pay98 v53_0 v53_1 v317 v356 v357
  let v404 : FVec F S8x512 .f32 := k1_pay99 v53_1
  let v406 : FVec F S8x512 .f32 := k1_pay100 v53_1
  let v407 : FVec F S8x512 .f32 := k1_pay101 (F := F)
  let v423 : FVec F S8x512 .f32 := k1_pay102 v53_0 v53_1 v370 v404 v406 v407
  let v457 : FVec F S8x512 .f32 := k1_pay103 v53_1
  let v458 : FVec F S1x8x512 .f32 := k1_pay104 v53_1
  let v476 : FVec F S8x512 .f32 := k1_pay105 v53_0 v53_1 v423 v457 v458
  let v505 : FVec F S8x512 .f32 := k1_pay106 v53_1
  let v507 : FVec F S8x512 .f32 := k1_pay107 v53_1
  let v508 : FVec F S8x512 .f32 := k1_pay108 (F := F)
  let v529 : FVec F S8x512 .f32 := k1_pay109 v53_0 v53_1 v476 v505 v507 v508
  let v558 : FVec F S8x512 .f32 := k1_pay110 v53_1
  let v559 : FVec F S1x8x512 .f32 := k1_pay111 v53_1
  k1_pay1 v53_0 v53_1 v529 v558 v559

set_option maxRecDepth 65536 in
/-- A trip's region only computes: it returns `trip` of the carried pair. -/
theorem body_eq (arg0 : Memref sig .tc .vmem S10x8x512 .f32) (harg0 : arg0.IsWhole) (arg1 : Memref sig .tc .vmem S10x8x512 .f32) (harg1 : arg1.IsWhole)
    (arg2 : Memref sig .tc .vmem S1x1 .f32) (harg2 : arg2.IsWhole) (v1 v3 v5 v7 v9 v11 v13 v15 v17 v19 : FVec F S8x512 .f32) (v21 v23 : FVec F S8x512 .f32) (v24 v26 v28 v30 v32 v34 v36 v38 : Vec F S1x8x512 .f32)
    (k : Fin k1_t1_loop.trips) (acc : FVec F S10x8x512 .f32 × FVec F S10x8x512 .f32) :
    k1_t1_body (F := F) arg0 harg0 arg1 harg1 arg2 harg2 v1 v3 v5 v7 v9 v11 v13 v15 v17 v19 v21 v23 v24 v26 v28 v30 v32 v34 v36 v38 k acc
      = (pure (trip v1 v3 v5 v7 v9 v11 v13 v15 v17 v19 v21 v23 v24 v26 v28 v30 v32 v34 v36 v38 acc) : Prog (TpuEff nD τ sig (Elt F) Λ₀ .tc) _) := rfl

/-- The loop's invariant: before trip `k` the carried pair is `k` trips from the initial one. The loop touches no memory. -/
@[sl_loop, instance_reducible] def loopInv_k1_t1  (c : Dev nD) (arg0 : Memref sig .tc .vmem S10x8x512 .f32) (harg0 : arg0.IsWhole) (arg1 : Memref sig .tc .vmem S10x8x512 .f32) (harg1 : arg1.IsWhole) (arg2 : Memref sig .tc .vmem S1x1 .f32) (harg2 : arg2.IsWhole) (v1 : FVec F S8x512 .f32) (v3 : FVec F S8x512 .f32) (v5 : FVec F S8x512 .f32) (v7 : FVec F S8x512 .f32) (v9 : FVec F S8x512 .f32) (v11 : FVec F S8x512 .f32) (v13 : FVec F S8x512 .f32) (v15 : FVec F S8x512 .f32) (v17 : FVec F S8x512 .f32) (v19 : FVec F S8x512 .f32) (v21 : FVec F S8x512 .f32) (v23 : FVec F S8x512 .f32) (v24 : Vec F S1x8x512 .f32) (v26 : Vec F S1x8x512 .f32) (v28 : Vec F S1x8x512 .f32) (v30 : Vec F S1x8x512 .f32) (v32 : Vec F S1x8x512 .f32) (v34 : Vec F S1x8x512 .f32) (v36 : Vec F S1x8x512 .f32) (v38 : Vec F S1x8x512 .f32) (init : FVec F S10x8x512 .f32 × FVec F S10x8x512 .f32) :
    Cert.KernelIdeal.Gen.LoopInvTy_k1_t1 (F := F) Unit ℕ (UU nD τ) ℕ 𝒱₀ c none Set.univ arg0 harg0 arg1 harg1 arg2 harg2 v1 v3 v5 v7 v9 v11 v13 v15 v17 v19 v21 v23 v24 v26 v28 v30 v32 v34 v36 v38 init where
  inv := fun k acc => iprop(⌜acc = (trip v1 v3 v5 v7 v9 v11 v13 v15 v17 v19 v21 v23 v24 v26 v28 v30 v32 v34 v36 v38)^[k] init⌝)
  step := fun k acc => by
    rw [body_eq]
    iintro %h
    sl_step
    ipureintro
    rw [h, ← Function.iterate_succ_apply' (f := trip v1 v3 v5 v7 v9 v11 v13 v15 v17 v19 v21 v23 v24 v26 v28 v30 v32 v34 v36 v38)]

/-! ## The kernel bodies, run -/

/-- Memref `M`'s buffer on core `c`: its contents type, and the buffer held whole at `f`. -/
abbrev Bf (c : Dev nD) {sp : Space} {S : Shape} {e : EltTy} (M : Memref sig .tc sp S e) : Type := Buf (Elt F) (M.view.loc (c : Thread nD τ))
/-- A buffer held whole, with its contents. -/
abbrev pt (c : Dev nD) {sp : Space} {S : Shape} {e : EltTy} (M : Memref sig .tc sp S e) (f : Bf (F := F) c M) : sProp 𝕄 :=
  M.view.loc (c : Thread nD τ) ↦{fullShare} f

/-- What the nearest-neighbour body leaves in its two result buffers, with the proof that from all six staging buffers
    held whole it runs to its return, handing the four inputs back as they were and the results at those contents. -/
def body0Run (c : Dev nD) (i : grid0.Coords) (M1 : Memref sig .tc .vmem S256x256 .f32) (h1 : M1.IsWhole) (M2 : Memref sig .tc .vmem S256x4096 .f32) (h2 : M2.IsWhole)
    (M3 : Memref sig .tc .vmem S256x256 .f32) (h3 : M3.IsWhole) (M4 : Memref sig .tc .vmem S256x4096 .f32) (h4 : M4.IsWhole)
    (M5 : Memref sig .tc .vmem S256x10 .f32) (h5 : M5.IsWhole) (M6 : Memref sig .tc .vmem S256x10 .f32) (h6 : M6.IsWhole)
    (f1 : Bf (F := F) c M1) (f2 : Bf (F := F) c M2) (f3 : Bf (F := F) c M3) (f4 : Bf (F := F) c M4) :
    { W : Bf (F := F) c M5 × Bf (F := F) c M6 // ∀ (f5 : Bf (F := F) c M5) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
            ∗ (iprop(pt c M1 f1 ∗ pt c M2 f2 ∗ pt c M3 f3 ∗ pt c M4 f4 ∗ pt c M5 W.1 ∗ pt c M6 W.2) -∗ Q ⟨⟩))
          ⊢ wp frame (wpE (defs₀ (F := F)) Variants.none c none) E (cc0__knn_kernel i M1 h1 M2 h2 M3 h3 M4 h4 M5 h5 M6 h6) Q } := by
  refine ⟨(?_, ?_), fun f5 f6 E Q => ?run⟩
  case run =>
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- What the Sinkhorn body leaves in its result buffer, likewise. -/
def body1Run (c : Dev nD) (M1 : Memref sig .tc .vmem S10x8x512 .f32) (h1 : M1.IsWhole) (M2 : Memref sig .tc .vmem S10x8x512 .f32) (h2 : M2.IsWhole)
    (M3 : Memref sig .tc .vmem S1x1 .f32) (h3 : M3.IsWhole) (f1 : Bf (F := F) c M1) (f2 : Bf (F := F) c M2) :
    { W : Bf (F := F) c M3 // ∀ (f3 : Bf (F := F) c M3) (Q : PUnit → sProp 𝕄),
        iprop(pt c M1 f1 ∗ pt c M2 f2 ∗ pt c M3 f3
            ∗ (iprop(pt c M1 f1 ∗ pt c M2 f2 ∗ pt c M3 W) -∗ Q ⟨⟩))
          ⊢ wp frame (wpE (defs₀ (F := F)) Variants.none c none) Set.univ (cc1__sinkhorn_kernel M1 h1 M2 h2 M3 h3) Q } := by
  refine ⟨?_, fun f3 Q => ?run⟩
  case run =>
    iintro ⟨H1, H2, H3, Hk⟩
    sl_exec!
    sl_step
    iapply Hk
    isplitl [H1]; · iexact H1
    isplitl [H2]; · iexact H2
    iexact H3

/-! ## The bodies' results as functions of the blocks they load -/

/-- The part of `X` a load of one leading slice reads. -/
def ld (X : FVec F S10x8x512 .f32) (off : Fin 3 → ℕ) (inb : ∀ a : Fin 3, off a + S1x8x512.size a ≤ S10x8x512.size a) : Vec F S1x8x512 .f32 :=
  fun y => X ((Rect.unit (s := S10x8x512) off S1x8x512.size inb).toLoadRect.idx y)

/-- The Sinkhorn kernel's `(u, v)` after `n` trips over the marginals `A`, `B`. -/
def sinkState (A B : FVec F S10x8x512 .f32) (n : ℕ) : FVec F S10x8x512 .f32 × FVec F S10x8x512 .f32 :=
  (trip (k1_pay58 (ld A ![0, 0, 0] inb_S10x8x512_S1x8x512_0_0_0)) (k1_pay59 (ld A ![1, 0, 0] inb_S10x8x512_S1x8x512_1_0_0)) (k1_pay60 (ld A ![2, 0, 0] inb_S10x8x512_S1x8x512_2_0_0)) (k1_pay61 (ld A ![3, 0, 0] inb_S10x8x512_S1x8x512_3_0_0)) (k1_pay62 (ld A ![4, 0, 0] inb_S10x8x512_S1x8x512_4_0_0)) (k1_pay63 (ld A ![5, 0, 0] inb_S10x8x512_S1x8x512_5_0_0)) (k1_pay64 (ld A ![6, 0, 0] inb_S10x8x512_S1x8x512_6_0_0)) (k1_pay65 (ld A ![7, 0, 0] inb_S10x8x512_S1x8x512_7_0_0)) (k1_pay66 (ld A ![8, 0, 0] inb_S10x8x512_S1x8x512_8_0_0)) (k1_pay67 (ld A ![9, 0, 0] inb_S10x8x512_S1x8x512_9_0_0)) (k1_pay68 (ld B ![0, 0, 0] inb_S10x8x512_S1x8x512_0_0_0)) (k1_pay69 (ld B ![1, 0, 0] inb_S10x8x512_S1x8x512_1_0_0)) (ld B ![2, 0, 0] inb_S10x8x512_S1x8x512_2_0_0) (ld B ![3, 0, 0] inb_S10x8x512_S1x8x512_3_0_0) (ld B ![4, 0, 0] inb_S10x8x512_S1x8x512_4_0_0) (ld B ![5, 0, 0] inb_S10x8x512_S1x8x512_5_0_0) (ld B ![6, 0, 0] inb_S10x8x512_S1x8x512_6_0_0) (ld B ![7, 0, 0] inb_S10x8x512_S1x8x512_7_0_0) (ld B ![8, 0, 0] inb_S10x8x512_S1x8x512_8_0_0) (ld B ![9, 0, 0] inb_S10x8x512_S1x8x512_9_0_0))^[n] (k1_pay78, k1_pay78)

/-- What the Sinkhorn kernel stores, from the marginals `A`, `B`. -/
def sink (A B : FVec F S10x8x512 .f32) : FVec F S1x1 .f32 := sinkOut (sinkState A B 50).1 (sinkState A B 50).2

/-- The first kernel leaves `knnA` of its first two blocks in its first result block. -/
theorem body0_read5 (c : Dev nD) (i : grid0.Coords) (M1 : Memref sig .tc .vmem S256x256 .f32) (h1 : M1.IsWhole) (M2 : Memref sig .tc .vmem S256x4096 .f32) (h2 : M2.IsWhole)
    (M3 : Memref sig .tc .vmem S256x256 .f32) (h3 : M3.IsWhole) (M4 : Memref sig .tc .vmem S256x4096 .f32) (h4 : M4.IsWhole)
    (M5 : Memref sig .tc .vmem S256x10 .f32) (h5 : M5.IsWhole) (M6 : Memref sig .tc .vmem S256x10 .f32) (h6 : M6.IsWhole)
    (f1 : Bf (F := F) c M1) (f2 : Bf (F := F) c M2) (f3 : Bf (F := F) c M3) (f4 : Bf (F := F) c M4) :
    M5.view.read (Elt F) (body0Run c i M1 h1 M2 h2 M3 h3 M4 h4 M5 h5 M6 h6 f1 f2 f3 f4).1.1 = knnA (M1.view.read (Elt F) f1) (M2.view.read (Elt F) f2) := by
  refine (View.read_writes_full M5.view _ inb_S256x10_S256x10_0_0 _ []).trans ?_
  show knnA (M1.view.readAt (Elt F) (Rect.unit ![0, 0] S256x256.size inb_S256x256_S256x256_0_0).toLoadRect f1)
    (M2.view.readAt (Elt F) (Rect.unit ![0, 0] S256x4096.size inb_S256x4096_S256x4096_0_0).toLoadRect f2) = _
  rw [View.readAt_full, View.readAt_full]

/-- The first kernel leaves `knnB` of its last two blocks in its second result block. -/
theorem body0_read6 (c : Dev nD) (i : grid0.Coords) (M1 : Memref sig .tc .vmem S256x256 .f32) (h1 : M1.IsWhole) (M2 : Memref sig .tc .vmem S256x4096 .f32) (h2 : M2.IsWhole)
    (M3 : Memref sig .tc .vmem S256x256 .f32) (h3 : M3.IsWhole) (M4 : Memref sig .tc .vmem S256x4096 .f32) (h4 : M4.IsWhole)
    (M5 : Memref sig .tc .vmem S256x10 .f32) (h5 : M5.IsWhole) (M6 : Memref sig .tc .vmem S256x10 .f32) (h6 : M6.IsWhole)
    (f1 : Bf (F := F) c M1) (f2 : Bf (F := F) c M2) (f3 : Bf (F := F) c M3) (f4 : Bf (F := F) c M4) :
    M6.view.read (Elt F) (body0Run c i M1 h1 M2 h2 M3 h3 M4 h4 M5 h5 M6 h6 f1 f2 f3 f4).1.2 = knnB (M3.view.read (Elt F) f3) (M4.view.read (Elt F) f4) := by
  refine (View.read_writes_full M6.view _ inb_S256x10_S256x10_0_0 _ []).trans ?_
  show knnB (M3.view.readAt (Elt F) (Rect.unit ![0, 0] S256x256.size inb_S256x256_S256x256_0_0).toLoadRect f3)
    (M4.view.readAt (Elt F) (Rect.unit ![0, 0] S256x4096.size inb_S256x4096_S256x4096_0_0).toLoadRect f4) = _
  rw [View.readAt_full, View.readAt_full]

/-- The second kernel leaves `sink` of its two operands in its result. -/
theorem body1_read (c : Dev nD) (M1 : Memref sig .tc .vmem S10x8x512 .f32) (h1 : M1.IsWhole) (M2 : Memref sig .tc .vmem S10x8x512 .f32) (h2 : M2.IsWhole)
    (M3 : Memref sig .tc .vmem S1x1 .f32) (h3 : M3.IsWhole) (f1 : Bf (F := F) c M1) (f2 : Bf (F := F) c M2) :
    M3.view.read (Elt F) (body1Run c M1 h1 M2 h2 M3 h3 f1 f2).1 = sink (M1.view.read (Elt F) f1) (M2.view.read (Elt F) f2) := by
  refine (View.read_writes_full M3.view _ inb_S1x1_S1x1_0_0 _ []).trans ?_
  have h50 : Scf.trips k1_t1_loop.lb k1_t1_loop.ub k1_t1_loop.st = 50 := by decide
  unfold sink
  rw [← h50]
  rfl

/-! ## The pipelines' proof data, at an entry valuation -/

section Dats

variable (V : (c : Dev nD) → (b : Ref sig .tc) → Buf (Elt F) ((c : Thread nD τ).loc b))

/-- The block of window `w`'s array the kernel sees at grid point `t`, the arrays at `V`. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for the second pipeline. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first pipeline: the four inputs stay as fetched, the two results are the kernel's. -/
def dat0 (c : Dev nD) : Dat τ (Elt F) Unit ℕ (UU nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => knnA (blk0 V c 0 t) (blk0 V c 1 t)
    | ⟨5, _⟩ => knnB (blk0 V c 2 t) (blk0 V c 3 t)
  Φ _ := Pipeline.scopedRest (Ix := Unit) (Name := ℕ) (U := UU nD τ) (Lvl := ℕ) (Val := Elt F) spec0 c
  q _ := fullShare
  owed _ := 0

/-- The second pipeline, likewise. -/
def dat1 (c : Dev nD) : Dat τ (Elt F) Unit ℕ (UU nD τ) ℕ cfg1 c where
  A w := V c (Pipeline.arrRef spec1 w)
  after w t := match w with
    | ⟨0, _⟩ => blk1 V c 0 t
    | ⟨1, _⟩ => blk1 V c 1 t
    | ⟨2, _⟩ => sink (blk1 V c 0 t) (blk1 V c 1 t)
  Φ _ := Pipeline.scopedRest (Ix := Unit) (Name := ℕ) (U := UU nD τ) (Lvl := ℕ) (Val := Elt F) spec1 c
  q _ := fullShare
  owed _ := 0

/-- The first kernel finds input window 0 as fetched. -/
theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; rfl) t d).trans rfl
/-- The first kernel finds input window 1 as fetched. -/
theorem before0_1 (c : Dev nD) (t : Fin cfg0.N) (d) : (dat0 V c).before 1 t d = blk0 V c 1 t :=
  ((dat0 V c).before_in_eq_fetched 1 rfl (fun _ => rfl) (fun _ _ _ => rfl) (fun t => by dsimp only [dat0]; rfl) t d).trans rfl
/-- The first kernel finds input window 2 as fetched. -/
theorem before0_2 (c : Dev nD) (t : Fin cfg0.N) (d) : (dat0 V c).before 2 t d = blk0 V c 2 t :=
  ((dat0 V c).before_in_eq_fetched 2 rfl (fun _ => rfl) (fun _ _ _ => rfl) (fun t => by dsimp only [dat0]; rfl) t d).trans rfl
/-- The first kernel finds input window 3 as fetched. -/
theorem before0_3 (c : Dev nD) (t : Fin cfg0.N) (d) : (dat0 V c).before 3 t d = blk0 V c 3 t :=
  ((dat0 V c).before_in_eq_fetched 3 rfl (fun _ => rfl) (fun _ _ _ => rfl) (fun t => by dsimp only [dat0]; rfl) t d).trans rfl
/-- The second kernel finds input window 0 as fetched. -/
theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; rfl) t d).trans rfl
/-- The second kernel finds input window 1 as fetched. -/
theorem before1_1 (c : Dev nD) (t : Fin cfg1.N) (d) : (dat1 V c).before 1 t d = blk1 V c 1 t :=
  ((dat1 V c).before_in_eq_fetched 1 rfl (fun _ => rfl) (fun _ _ _ => rfl) (fun t => by dsimp only [dat1]; rfl) t d).trans rfl

/-- A whole staging buffer owned at contents `X` is its location held at contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The nearest-neighbour kernel meets its obligation at every grid point. -/
theorem obligation0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.succ = (dat0 V c).owesAt () t.castSucc from rfl]
  simp only [owns_pt c (st0_0 t) (hstage0_0 ((cfg0.slots t 0).cast nbuf0_0)),
    owns_pt c (st0_1 t) (hstage0_1 ((cfg0.slots t 1).cast nbuf0_1)),
    owns_pt c (st0_2 t) (hstage0_2 ((cfg0.slots t 2).cast nbuf0_2)),
    owns_pt c (st0_3 t) (hstage0_3 ((cfg0.slots t 3).cast nbuf0_3)),
    owns_pt c (st0_4 t) (hstage0_4 ((cfg0.slots t 4).cast nbuf0_4)),
    owns_pt c (st0_5 t) (hstage0_5 ((cfg0.slots t 5).cast nbuf0_5))]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [before0_0] at hf0; rw [before0_1] at hf1; rw [before0_2] at hf2; rw [before0_3] at hf3
  iapply ((body0Run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) f0 f1 f2 f3).2 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]
  · iexists _; isplitr; swap; (· iexact H4); ipureintro
    refine (body0_read5 ..).trans ?_
    dsimp only [dat0]; rw [hf0, hf1]
  · iexists _; isplitr; swap; (· iexact H5); ipureintro
    refine (body0_read6 ..).trans ?_
    dsimp only [dat0]; rw [hf2, hf3]

/-- The Sinkhorn kernel meets its obligation at its one point. -/
theorem obligation1 (c : Dev nD) : BodyObligation (dat1 V c) (defs₀ (F := F)) 𝒱₀ () Set.univ := fun t => by
  rw [bigSep_W1, bigSep_W1]
  rw [show (dat1 V c).Φ t.castSucc = (dat1 V c).Φ t.succ from rfl,
    show (dat1 V c).owesAt () t.succ = (dat1 V c).owesAt () t.castSucc from rfl]
  simp only [owns_pt c (st1_0 t) (hstage1_0 0),
    owns_pt c (st1_1 t) (hstage1_1 0),
    owns_pt c (st1_2 t) (hstage1_2 0)]
  iintro ⟨HΦ, Howes, ⟨%d0, %f0, %hf0, H0⟩, ⟨%d1, %f1, %hf1, H1⟩, ⟨%d2, %f2, -, H2⟩⟩
  rw [before1_0] at hf0; rw [before1_1] at hf1
  iapply ((body1Run c (st1_0 t) (hstage1_0 0) (st1_1 t) (hstage1_1 0) (st1_2 t) (hstage1_2 0) f0 f1).2 f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  refine (body1_read ..).trans ?_
  dsimp only [dat1]; rw [hf0, hf1]

end Dats

end Cert.Proof.KernelIdeal

end
-- ==== Proof.KernelIdealMain.lean ====
/-
  @main run to its end: the two kernel regions as segments of the host program, and every buffer outside the kernels
  read off at the end.
-/
module

public import proofs.«01_k».proof.Proof.KernelIdealRun

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)

variable {F : FTy → Type} [FloatOps F] [Named F]

local notation "𝕄" => MT nD τ sig Unit (Elt F) ℕ (UU nD τ) ℕ

/-- No core owes another anything: no level is assigned. -/
abbrev L : GSem nD τ sig → Finset Unit := fun _ => ∅
/-- The level of every wait. -/
abbrev lv : GSem nD τ sig → Unit → ℕ := fun _ _ => 0

variable (m : (ℓ : Loc nD τ sig) → Buf (Elt F) ℓ) (ρ : Dev nD → PrngReg)

/-- What rides beside the buffers between two items: that the core owes nothing. -/
def E (c : Dev nD) : sProp 𝕄 := iprop(∃ W, owes (c : Thread nD τ) (0 : CellTallies nD τ sig Unit) W)

/-- What the first region leaves, at every index. -/
def outs₁ : Outs (F := F) := fun _ r c => Pipeline.afterRegion (dat0 (fun c b => V1 m c b) c) (V1 m c) r
/-- What the regions leave: the first one's arrays, and after item 3 the second one's. -/
def outs : Outs (F := F) := fun J r c => match J with
  | 4 => Pipeline.afterRegion (dat1 (fun c b => V3 m (outs₁ m) c b) c) (V3 m (outs₁ m) c) r
  | _ => outs₁ m J r c

/-- The valuations between the items, at the TensorCore's references. -/
abbrev W1 (c : Dev nD) (b : Ref sig .tc) : Buf (Elt F) ((c : Thread nD τ).loc b) := V1 m c b
/-- What every buffer holds after the first region. -/
abbrev W2 (c : Dev nD) (b : Ref sig .tc) : Buf (Elt F) ((c : Thread nD τ).loc b) := V2 m (outs m) c b
/-- What every buffer holds before the second region. -/
abbrev W3 (c : Dev nD) (b : Ref sig .tc) : Buf (Elt F) ((c : Thread nD τ).loc b) := V3 m (outs m) c b
/-- What every buffer holds after the second region. -/
abbrev W4 (c : Dev nD) (b : Ref sig .tc) : Buf (Elt F) ((c : Thread nD τ).loc b) := V4 m (outs m) c b

/-- The two pipelines' proof data, each at the valuation its region is entered from. -/
def pdats : (p : Fin 2) → (c : Dev nD) → Dat τ (Elt F) Unit ℕ (UU nD τ) ℕ (cfgs p) c
  | 0 => dat0 (W1 m)
  | 1 => dat1 (W3 m)

/-- Between the first region's ends only its two results change. -/
theorem hne0 (c : Dev nD) (b : Ref sig .tc) (h : b ≠ main_v2_0 ∧ b ≠ main_v2_1) : W2 m c b = W1 m c b := by
  show Function.update (Function.update (V1 m c) _ _) _ _ b = _
  rw [Function.update_of_ne (StableHlo.devRef_ne_of_ne h.2), Function.update_of_ne (StableHlo.devRef_ne_of_ne h.1)]
/-- The first region's first result array is its pipeline's. -/
theorem hout0_4 (c : Dev nD) : W2 m c main_v2_0 = (dat0 (W1 m) c).arrAt 4 cfg0.N := by
  show Function.update (Function.update (V1 m c) _ _) _ _ _ = _
  rw [Function.update_of_ne (StableHlo.devRef_ne_of_ne (by decide)), Function.update_self]
  exact Pipeline.afterRegion_arr (dat0 (W1 m) c) (V1 m c) launch0.win.arr_inj 4
/-- The first region's second result array is its pipeline's. -/
theorem hout0_5 (c : Dev nD) : W2 m c main_v2_1 = (dat0 (W1 m) c).arrAt 5 cfg0.N := by
  show Function.update (Function.update (V1 m c) _ _) _ _ _ = _
  rw [Function.update_self]
  exact Pipeline.afterRegion_arr (dat0 (W1 m) c) (V1 m c) launch0.win.arr_inj 5
/-- Between the second region's ends only its result changes. -/
theorem hne1 (c : Dev nD) (b : Ref sig .tc) (h : b ≠ main_v7) : W4 m c b = W3 m c b := by
  show Function.update (V3 m (outs m) c) _ _ b = _
  rw [Function.update_of_ne (StableHlo.devRef_ne_of_ne h)]
/-- The second region's result array is its pipeline's. -/
theorem hout1_2 (c : Dev nD) : W4 m c main_v7 = (dat1 (W3 m) c).arrAt 2 cfg1.N := by
  show Function.update (V3 m (outs m) c) _ _ _ = _
  rw [Function.update_self]
  exact Pipeline.afterRegion_arr (dat1 (W3 m) c) (V3 m (outs₁ m) c) launch1.win.arr_inj 2

-- the launch lemma below applies only with this option
set_option backward.isDefEq.respectTransparency.types false in
/-- Region 0, entered from every buffer outside the kernels held at the valuation before it and left with them held at the next one. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (W1 m) c).loose
  hwaits := Pipeline.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (V2 m (outs m) c) ∗ E c)
  X _ := BI.emp
  Y _ := BI.emp
  Z c := iprop(Pipeline.unscopedRest (Ix := Unit) (Name := ℕ) (U := UU nD τ) (Lvl := ℕ) spec0 c ((W1 m) c))
  hentry c := by
    rw [Pipeline.ownSems0_none]
    rw [show StableHlo.held (c : Thread nD τ) (Pipeline.ucRefs τ sig) (V1 m c) = unscopedBufs c ((W1 m) c) from
      (Pipeline.unscopedBufs_held (Ix := Unit) (Name := ℕ) (U := UU nD τ) (Lvl := ℕ) c (V1 m c)).symm]
    have hsplit := Pipeline.arrays_of_unscopedBufs (p := 0) (pcfgs (F := F)) adm (pdats m) launch0.win launch0.arr_whole c
      ((pdats m 0 c).share_full fun _ => rfl) ((W1 m) c) fun _ => rfl
    unfold E
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V2 m (outs m) c) = unscopedBufs c ((W2 m) c) from
      (Pipeline.unscopedBufs_held (Ix := Unit) (Name := ℕ) (U := UU nD τ) (Lvl := ℕ) c (V2 m (outs m) c)).symm]
    have hjoin := Pipeline.unscopedBufs_of_arrays (p := 0) (pcfgs (F := F)) adm (Ix := Unit) (Name := ℕ) (U := UU nD τ) (Lvl := ℕ) launch0.win launch0.arr_whole c
      (pdats m) ((pdats m 0 c).share_full fun _ => rfl) ((W1 m) c) ((W2 m) c) ((pdats m 0 c).arrAt · cfg0.N)
      (fun w => by
        fin_cases w
        · exact ((pdats m 0 c).arrAt_in 0 rfl _).trans (hne0 m c main_arg0 (by decide)).symm
        · exact ((pdats m 0 c).arrAt_in 1 rfl _).trans (hne0 m c main_v0 (by decide)).symm
        · exact ((pdats m 0 c).arrAt_in 2 rfl _).trans (hne0 m c main_arg1 (by decide)).symm
        · exact ((pdats m 0 c).arrAt_in 3 rfl _).trans (hne0 m c main_v1 (by decide)).symm
        · exact (hout0_4 m c).symm
        · exact (hout0_5 m c).symm
        )
      (fun b hb => hne0 m c b (⟨fun h => hb (h ▸ Finset.mem_image.mpr ⟨4, Finset.mem_univ _, rfl⟩), fun h => hb (h ▸ Finset.mem_image.mpr ⟨5, Finset.mem_univ _, rfl⟩)⟩))
    iintro ⟨Ha, HO, -, Hrest⟩
    imodintro
    isplitl [Ha Hrest]
    · iapply hjoin; isplitl [Ha] <;> iassumption
    unfold E Pipeline.Dat.owesAt Pipeline.owesWithin
    icases HO with ⟨%W, -, HO⟩; iexists W; iexact HO

-- the launch lemma below applies only with this option
set_option backward.isDefEq.respectTransparency.types false in
/-- Region 1, entered from every buffer outside the kernels held at the valuation before it and left with them held at the next one. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (W3 m) c).loose
  hwaits := Pipeline.hwaits_of_owed_zero _ _ _ _ L lv 1 fun _ _ => rfl
  pre c := iprop(StableHlo.held (c : Thread nD τ) (Pipeline.ucRefs τ sig) (V3 m (outs m) c) ∗ E c)
  post c := iprop(StableHlo.held (c : Thread nD τ) (Pipeline.ucRefs τ sig) (V4 m (outs m) c) ∗ E c)
  X _ := BI.emp
  Y _ := BI.emp
  Z c := iprop(Pipeline.unscopedRest (Ix := Unit) (Name := ℕ) (U := UU nD τ) (Lvl := ℕ) spec1 c ((W3 m) c))
  hentry c := by
    rw [Pipeline.ownSems0_none]
    rw [show StableHlo.held (c : Thread nD τ) (Pipeline.ucRefs τ sig) (V3 m (outs m) c) = unscopedBufs c ((W3 m) c) from
      (Pipeline.unscopedBufs_held (Ix := Unit) (Name := ℕ) (U := UU nD τ) (Lvl := ℕ) c (V3 m (outs m) c)).symm]
    have hsplit := Pipeline.arrays_of_unscopedBufs (p := 1) (pcfgs (F := F)) adm (pdats m) launch1.win launch1.arr_whole c
      ((pdats m 1 c).share_full fun _ => rfl) ((W3 m) c) fun _ => rfl
    unfold E
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UU nD τ) (Lvl := ℕ) (Val := Elt F) spec1 c from rfl]
    iintro Hr
    isplitr; · iempintro
    isplitr; · iempintro
    iexact Hr
  hexit c := by
    rw [show StableHlo.held (c : Thread nD τ) (Pipeline.ucRefs τ sig) (V4 m (outs m) c) = unscopedBufs c ((W4 m) c) from
      (Pipeline.unscopedBufs_held (Ix := Unit) (Name := ℕ) (U := UU nD τ) (Lvl := ℕ) c (V4 m (outs m) c)).symm]
    have hjoin := Pipeline.unscopedBufs_of_arrays (p := 1) (pcfgs (F := F)) adm (Ix := Unit) (Name := ℕ) (U := UU nD τ) (Lvl := ℕ) launch1.win launch1.arr_whole c
      (pdats m) ((pdats m 1 c).share_full fun _ => rfl) ((W3 m) c) ((W4 m) c) ((pdats m 1 c).arrAt · cfg1.N)
      (fun w => by
        fin_cases w
        · exact ((pdats m 1 c).arrAt_in 0 rfl _).trans (hne1 m c main_v4 (by decide)).symm
        · exact ((pdats m 1 c).arrAt_in 1 rfl _).trans (hne1 m c main_v6 (by decide)).symm
        · exact (hout1_2 m c).symm
        )
      (fun b hb => hne1 m c b (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold E Pipeline.Dat.owesAt Pipeline.owesWithin
    icases HO with ⟨%W, -, HO⟩; iexists W; iexact HO

/-- @main at any float interpretation, from any memory with zero counters: every execution terminates, and at the end
    every buffer outside the kernels holds what the last valuation says and every semaphore counter is zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = V5 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => E) () (pdats m) (reg0 m) (reg1 m))
    (fun c Q => by
      rewrite [main_chain c, Seg.run_eq_chain,
        show (segs m (outs m) 𝒱₀ L lv (fun _ => E) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UU nD τ) (Lvl := ℕ) c (V0 m c)]
      iintro ⟨⟨Hh, -, HO, -, -, -⟩, -⟩
      imodintro
      isplitl [Hh]; · iexact Hh
      unfold E; iexists ∅; iexact HO)
    (QY := fun c s => ∀ b ∈ Pipeline.ucRefs τ sig, s.mem ((c.tc : Thread nD τ).1, b) = V5 m (outs m) c b)
    (hfin := fun c s' => ?_) (hQ := fun _ h hz => ⟨h, funext fun g => hz g (.inr (regions_no_unscoped g.2))⟩)
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

end Cert.Proof.KernelIdeal

end
-- ==== Proof.Math.lean ====
/-
  The mathematics both programs share, with no program in it: the row distances' order statistics by repeated masking
  of the first minimum, the scaling iteration of one row, and the row's loss in the two groupings of its products.
  All values are extended reals.
-/
module

public import Idealize.ShloMosaic.PureOps.Ideal.Laws
public import Idealize.ShloMosaic.Lib.SortFacts

@[expose] public section

noncomputable section

namespace Cert.Proof.Math

open Idealize.ShloMosaic

/-! ### Order statistics -/

variable {n : ℕ}

/-- Position `k` of a row precedes `k'`: its entry is smaller, or the entries are equal and the position is smaller. -/
def precedes (f : Fin n → EReal) (k k' : Fin n) : Bool := decide (f k < f k' ∨ (f k = f k' ∧ k < k'))

/-- When one entry does not precede another. -/
theorem precedes_false (f : Fin n → EReal) (k k' : Fin n) :
    precedes f k k' = false ↔ f k' < f k ∨ (f k = f k' ∧ k' ≤ k) := by
  simp only [precedes, decide_eq_false_iff_not, not_or, not_and, not_lt]
  constructor
  · rintro ⟨h1, h2⟩
    rcases h1.lt_or_eq with h | h
    · exact Or.inl h
    · exact Or.inr ⟨h.symm, h2 h.symm⟩
  · rintro (h | ⟨h1, h2⟩)
    · exact ⟨h.le, fun e => absurd e h.ne'⟩
    · exact ⟨h1.ge, fun _ => h2⟩

/-- The positions of a row, by increasing entry and equal entries by increasing position. -/
def ord (f : Fin n → EReal) : Equiv.Perm (Fin n) :=
  Equiv.ofBijective (sortedFrom (precedes f)) ⟨sortedFrom_injective _, sortedFrom_surjective _⟩

/-- The order has no later entry before an earlier one. -/
theorem ord_sorted (f : Fin n → EReal) {s t : Fin n} (h : s < t) : precedes f (ord f t) (ord f s) = false := by
  refine sortedFrom_noInversion (precedes f) (precedes f) (fun a b hab => ?_) (fun _ _ h => h) (fun a b c hab hbc => ?_) s t h
  · simp only [precedes, decide_eq_true_eq] at hab
    rw [precedes_false]
    rcases hab with h | ⟨h1, h2⟩
    · exact Or.inl h
    · exact Or.inr ⟨h1.symm, h2.le⟩
  · rw [precedes_false] at *
    rcases hab with h | ⟨h1, h2⟩ <;> rcases hbc with h' | ⟨h1', h2'⟩
    · exact Or.inl (h'.trans h)
    · exact Or.inl (h1' ▸ h)
    · exact Or.inl (h1 ▸ h')
    · exact Or.inr ⟨h1.trans h1', h2'.trans h2⟩

/-- The `t`-th smallest entry of a row, counted with multiplicity. -/
def kth (f : Fin n → EReal) (t : Fin n) : EReal := f (ord f t)

/-- The entries in order increase. -/
theorem kth_mono (f : Fin n → EReal) {s t : Fin n} (h : s ≤ t) : kth f s ≤ kth f t := by
  rcases h.lt_or_eq with h | h
  · rcases (precedes_false f _ _).mp (ord_sorted f h) with h | h
    · exact h.le
    · exact h.1.ge
  · rw [h]

/-- Any arrangement of a row that lists its entries in increasing order lists the order statistics. -/
theorem eq_kth_of_sorted (f : Fin n → EReal) (σ : Fin n → Fin n) (hinj : Function.Injective σ)
    (hmono : ∀ s t : Fin n, s < t → f (σ s) ≤ f (σ t)) (t : Fin n) : f (σ t) = kth f t := by
  have hp : ∀ τ : Fin n → Fin n, Function.Injective τ → ((List.finRange n).map τ).Perm (List.finRange n) := fun τ hτ =>
    (List.perm_ext_iff_of_nodup ((List.nodup_finRange n).map hτ) (List.nodup_finRange n)).mpr fun p => by
      obtain ⟨q, hq⟩ := (Finite.injective_iff_surjective.mp hτ) p
      simp only [List.mem_map, List.mem_finRange, true_and, iff_true]
      exact ⟨q, hq⟩
  have hs : ∀ τ : Fin n → Fin n, (∀ s t : Fin n, s < t → f (τ s) ≤ f (τ t)) →
      ((List.ofFn fun t => f (τ t))).Pairwise fun a b => a ≤ b := fun τ hτ => List.pairwise_ofFn.mpr fun i j h => hτ i j h
  have hl : ∀ τ : Fin n → Fin n, (List.ofFn fun t => f (τ t)) = ((List.finRange n).map τ).map f := fun τ => by
    rw [List.map_map, List.ofFn_eq_map]; rfl
  have he : (List.ofFn fun t => f (σ t)) = List.ofFn fun t => f (ord f t) := by
    refine List.Perm.eq_of_pairwise (fun a b _ _ h1 h2 => le_antisymm h1 h2) (hs σ hmono)
      (hs (ord f) fun s t h => kth_mono f h.le) ?_
    rw [hl, hl]
    exact ((hp σ hinj).map f).trans ((hp (ord f) (ord f).injective).map f).symm
  exact congrFun (List.ofFn_injective he) t

/-- The least entry of a row. -/
def rowMin (w : Fin n → EReal) : EReal := Finset.univ.inf w

/-- `j` is the first position at which a row attains its least entry. -/
def FirstMin (w : Fin n → EReal) (j : Fin n) : Prop := w j = rowMin w ∧ ∀ i < j, w i ≠ rowMin w

open Classical in
/-- A row with the first occurrence of its least entry replaced by `⊤`. -/
def maskFirst (w : Fin n → EReal) : Fin n → EReal := fun j => if FirstMin w j then ⊤ else w j

/-- The least entry is at most every entry. -/
theorem rowMin_le (w : Fin n → EReal) (j : Fin n) : rowMin w ≤ w j := Finset.inf_le (Finset.mem_univ j)

/-- Some entry is the least. -/
theorem exists_rowMin (w : Fin n → EReal) (hn : 0 < n) : ∃ j, w j = rowMin w := by
  obtain ⟨j, -, hj⟩ := Finset.exists_mem_eq_inf Finset.univ ⟨(⟨0, hn⟩ : Fin n), Finset.mem_univ _⟩ w
  exact ⟨j, hj.symm⟩

/-- A nonempty row has a first position of its least entry. -/
theorem exists_firstMin (w : Fin n → EReal) (hn : 0 < n) : ∃ j, FirstMin w j := by
  classical
  obtain ⟨j, hj⟩ := exists_rowMin w hn
  let S := Finset.univ.filter (fun i => w i = rowMin w)
  have hS : S.Nonempty := ⟨j, by simp [S, hj]⟩
  refine ⟨S.min' hS, by simpa [S] using S.min'_mem hS, fun i hi he => ?_⟩
  exact absurd (S.min'_le i (by simp [S, he])) (not_le.mpr hi)

/-- The first least entry is one. -/
theorem firstMin_unique {w : Fin n → EReal} {i j : Fin n} (hi : FirstMin w i) (hj : FirstMin w j) : i = j := by
  rcases lt_trichotomy i j with h | h | h
  · exact absurd hi.1 (hj.2 i h)
  · exact h
  · exact absurd hj.1 (hi.2 j h)

/-- A fold by the signed minimum is any bound below the start and all the entries that is itself an entry. -/
theorem fold_minsi_eq {ι : Type*} [DecidableEq ι] (s : Finset ι) (f : ι → BitVec 32) (b c : BitVec 32) (i : ι) (hi : i ∈ s)
    (hc : f i = c) (hb : c.toInt ≤ b.toInt) (hf : ∀ k ∈ s, c.toInt ≤ (f k).toInt) : s.fold IntOp.minsi b f = c := by
  have hge : ∀ t : Finset ι, (∀ k ∈ t, c.toInt ≤ (f k).toInt) → c.toInt ≤ (t.fold IntOp.minsi b f).toInt := by
    intro t
    induction t using Finset.induction_on with
    | empty => intro _; simpa using hb
    | insert a t ha ih =>
      intro h
      rw [Finset.fold_insert ha]
      have h1 := h a (by simp)
      have h2 := ih fun k hk => h k (by simp [hk])
      simp only [IntOp.minsi]
      split <;> assumption
  obtain ⟨t, ht, rfl⟩ : ∃ t, i ∉ t ∧ s = insert i t := ⟨s.erase i, by simp, (Finset.insert_erase hi).symm⟩
  rw [Finset.fold_insert ht, hc]
  have h2 := hge t fun k hk => hf k (by simp [hk])
  simp only [IntOp.minsi, BitVec.slt, decide_eq_true_eq]
  split
  · rfl
  · exact BitVec.eq_of_toInt_eq (by omega)

/-- The least position at which a row attains its least entry, found as a signed minimum of positions. -/
theorem first_place (w : Fin 4096 → EReal) (i : Fin 4096) (hi : FirstMin w i) :
    Finset.fold IntOp.minsi 2147483647#32 (fun k : Fin 4096 => if w k = rowMin w then BitVec.ofNat 32 k.val else 4096#32)
      Finset.univ = BitVec.ofNat 32 i.val := by
  have hint : ∀ k : Fin 4096, (BitVec.ofNat 32 k.val).toInt = k.val := fun k => by
    rw [BitVec.toInt_eq_toNat_of_lt] <;> simp only [BitVec.toNat_ofNat] <;> omega
  refine fold_minsi_eq _ _ _ _ i (Finset.mem_univ _) (if_pos hi.1) ?_ fun k _ => ?_
  · rw [hint, show (2147483647#32 : BitVec 32).toInt = 2147483647 from by decide]; omega
  · by_cases h : w k = rowMin w
    · rw [if_pos h, hint, hint]
      have : ¬ k < i := fun hk => hi.2 k hk h
      simp only [not_lt, Fin.le_def] at this
      omega
    · rw [if_neg h, hint, show (4096#32 : BitVec 32).toInt = 4096 from by decide]; omega

/-- The row after the first `t` order statistics have been struck out, each at its own sorted position. -/
def struck (f : Fin n → EReal) (t : ℕ) : Fin n → EReal :=
  fun j => if ((ord f).symm j : ℕ) < t then ⊤ else f j

/-- With the first `t` entries in order struck out, the least is the next. -/
theorem rowMin_struck (f : Fin n → EReal) (t : ℕ) (ht : t < n) : rowMin (struck f t) = kth f ⟨t, ht⟩ := by
  apply le_antisymm
  · refine (rowMin_le _ (ord f ⟨t, ht⟩)).trans ?_
    simp [struck, kth]
  · refine Finset.le_inf fun j _ => ?_
    unfold struck
    split
    · exact le_top
    · rename_i h
      have : kth f ⟨t, ht⟩ ≤ kth f ((ord f).symm j) := kth_mono f (by simpa [Fin.le_def] using h)
      simpa [kth] using this

/-- Masking the first least entry strikes out the next order statistic. -/
theorem maskFirst_struck (f : Fin n → EReal) (t : ℕ) (ht : t < n) : maskFirst (struck f t) = struck f (t + 1) := by
  classical
  have hmin := rowMin_struck f t ht
  set q : Fin n := ord f ⟨t, ht⟩ with hq
  have hfq : kth f ⟨t, ht⟩ = f q := rfl
  have hsq : (ord f).symm q = ⟨t, ht⟩ := by simp [hq]
  funext j
  by_cases htop : f q = ⊤
  · -- every entry still standing is `⊤`: neither side changes anything
    have hall : ∀ i, ¬ ((ord f).symm i : ℕ) < t → f i = ⊤ := fun i hi => by
      have : kth f ⟨t, ht⟩ ≤ kth f ((ord f).symm i) := kth_mono f (by simpa [Fin.le_def] using hi)
      rw [hfq, htop] at this
      simpa [kth] using this
    have hs : ∀ i, struck f t i = ⊤ := fun i => by
      unfold struck; split
      · rfl
      · exact hall i ‹_›
    have h1 : struck f (t + 1) j = ⊤ := by
      unfold struck; split
      · rfl
      · exact hall j (by omega)
    rw [h1]; unfold maskFirst; split
    · rfl
    · exact hs j
  · have hstand : ∀ i, struck f t i = f q → ¬ ((ord f).symm i : ℕ) < t ∧ f i = f q := fun i hi => by
      unfold struck at hi; split at hi
      · exact absurd hi.symm htop
      · exact ⟨‹_›, hi⟩
    have hfirst : ∀ i, FirstMin (struck f t) i ↔ i = q := by
      have hqv : struck f t q = f q := by simp [struck, hsq]
      have hqfirst : ∀ i < q, struck f t i ≠ rowMin (struck f t) := fun i hi he => by
        rw [hmin, hfq] at he
        obtain ⟨h1, h2⟩ := hstand i he
        have hne : (ord f).symm i ≠ ⟨t, ht⟩ := fun h => by
          have : i = q := by rw [hq, ← h]; simp
          exact absurd this hi.ne
        have hlt : (⟨t, ht⟩ : Fin n) < (ord f).symm i := by
          refine lt_of_le_of_ne ?_ (Ne.symm hne)
          simpa [Fin.le_def] using h1
        have := (precedes_false f _ _).mp (ord_sorted f hlt)
        simp only [Equiv.apply_symm_apply, ← hq] at this
        rcases this with h | h
        · exact absurd h2 h.ne'
        · exact absurd h.2 (not_le.mpr hi)
      intro i
      constructor
      · rintro ⟨h1, h2⟩
        rw [hmin, hfq] at h1
        rcases lt_trichotomy i q with h | h | h
        · exact absurd (by rw [h1, hmin, hfq]) (hqfirst i h)
        · exact h
        · exact absurd (by rw [hqv, hmin, hfq]) (h2 q h)
      · rintro rfl
        exact ⟨by rw [hqv, hmin, hfq], hqfirst⟩
    unfold maskFirst
    by_cases hj : j = q
    · subst hj
      rw [if_pos ((hfirst _).mpr rfl)]
      simp [struck, hsq]
    · rw [if_neg (fun h => hj ((hfirst _).mp h))]
      have hne : ((ord f).symm j : ℕ) ≠ t := fun h => hj (by
        have : (ord f).symm j = ⟨t, ht⟩ := Fin.ext h
        rw [hq, ← this]; simp)
      unfold struck
      congr 1
      exact propext ⟨fun h => by omega, fun h => by omega⟩

/-- After `t` maskings of the first least entry, the least entry of the row is its `t`-th order statistic. -/
theorem rowMin_iterate (f : Fin n → EReal) (t : ℕ) (ht : t < n) : rowMin (maskFirst^[t] f) = kth f ⟨t, ht⟩ := by
  have h : ∀ s ≤ t, maskFirst^[s] f = struck f s := fun s => by
    induction s with
    | zero => intro _; funext j; simp [struck]
    | succ s ih =>
      intro hs
      rw [Function.iterate_succ_apply', ih (by omega), maskFirst_struck f s (by omega)]
  rw [h t le_rfl, rowMin_struck]

/-! ### Signs -/

/-- A nonnegative number over a positive one is nonnegative. -/
theorem div_nonneg {x y : EReal} (hx : 0 ≤ x) (hy : 0 < y) : 0 ≤ Ideal.div x y := by
  unfold Ideal.div
  rw [if_neg hy.ne']
  exact mul_nonneg hx (EReal.inv_nonneg_of_nonneg hy.le)

/-- The root of a nonnegative number is nonnegative. -/
theorem sqrt_nonneg {x : EReal} (hx : 0 ≤ x) : 0 ≤ Ideal.sqrt x := by
  induction x with
  | bot => exact absurd hx (by simp)
  | top => rw [Ideal.sqrt_top]; exact le_top
  | coe r =>
    have hr : ¬ r < 0 := not_lt.mpr (EReal.coe_nonneg.mp hx)
    rw [Ideal.sqrt_coe, if_neg hr]
    exact EReal.coe_nonneg.mpr (Real.sqrt_nonneg r)

/-- A nonnegative and a positive number sum to a positive one. -/
theorem add_pos {x e : EReal} (hx : 0 ≤ x) (he : 0 < e) : 0 < x + e := lt_of_lt_of_le he (le_add_of_nonneg_left hx)

/-- A nonnegative factor goes into a sum of nonnegative terms. -/
theorem mul_sum_of_nonneg {ι : Type*} (s : Finset ι) (c : EReal) (f : ι → EReal) (hc : 0 ≤ c)
    (hf : ∀ i ∈ s, 0 ≤ f i) : c * ∑ i ∈ s, f i = ∑ i ∈ s, c * f i := by
  classical
  induction s using Finset.induction_on with
  | empty => simp
  | insert i s hi ih =>
    rw [Finset.sum_insert hi, Finset.sum_insert hi, EReal.left_distrib_of_nonneg (hf i (by simp))
      (Finset.sum_nonneg fun j hj => hf j (by simp [hj])), ih fun j hj => hf j (by simp [hj])]

/-! ### One row -/

/-- The Euclidean distance of rows `r` and `j` of an array, from the rows' squared norms and their inner product, the
    square clamped at zero. -/
def dist {N D : ℕ} (two : EReal) (X : Fin N → Fin D → EReal) (r j : Fin N) : EReal :=
  Ideal.sqrt (max ((∑ k, X r k * X r k) + (∑ k, X j k * X j k) - two * ∑ k, X r k * X j k) 0)

/-- A distance is nonnegative. -/
theorem dist_nonneg {N D : ℕ} (two : EReal) (X : Fin N → Fin D → EReal) (r j : Fin N) : 0 ≤ dist two X r j :=
  sqrt_nonneg (le_max_right _ _)

/-- A row's ten nearest distances, its least one left out, scaled to sum to one. -/
def near (eps : EReal) (f : Fin 4096 → EReal) (t : Fin 10) : EReal :=
  Ideal.div (kth f ⟨t + 1, by omega⟩) ((∑ s : Fin 10, kth f ⟨s + 1, by omega⟩) + eps)

/-- Scaled nearest distances are nonnegative. -/
theorem near_nonneg (eps : EReal) (he : 0 < eps) (f : Fin 4096 → EReal) (hf : ∀ j, 0 ≤ f j) (t : Fin 10) :
    0 ≤ near eps f t :=
  div_nonneg (hf _) (add_pos (Finset.sum_nonneg fun _ _ => hf _) he)

/-- One half-step of the scaling: the target divided by the kernel matrix applied to the other scaling. -/
def half (eps : EReal) (K : Fin 10 → Fin 10 → EReal) (a w : Fin 10 → EReal) (j : Fin 10) : EReal :=
  Ideal.div (a j) ((∑ i, K j i * w i) + eps)

/-- One trip of the scaling of one row: the second scaling from the first, then the first from the new second; the
    kernel matrix is its own transpose. -/
def trip (eps : EReal) (K : Fin 10 → Fin 10 → EReal) (a b : Fin 10 → EReal)
    (s : (Fin 10 → EReal) × (Fin 10 → EReal)) : (Fin 10 → EReal) × (Fin 10 → EReal) :=
  (half eps K a (half eps K b s.1), half eps K b s.1)

/-- A half-step keeps the scaling nonnegative. -/
theorem half_nonneg (eps : EReal) (he : 0 < eps) (K : Fin 10 → Fin 10 → EReal) (hK : ∀ i j, 0 ≤ K i j)
    (a w : Fin 10 → EReal) (ha : ∀ i, 0 ≤ a i) (hw : ∀ i, 0 ≤ w i) (j : Fin 10) : 0 ≤ half eps K a w j :=
  div_nonneg (ha j) (add_pos (Finset.sum_nonneg fun i _ => mul_nonneg (hK _ _) (hw i)) he)

/-- Nonnegative targets keep both scalings nonnegative. -/
theorem trip_nonneg (eps : EReal) (he : 0 < eps) (K : Fin 10 → Fin 10 → EReal) (hK : ∀ i j, 0 ≤ K i j)
    (a b : Fin 10 → EReal) (ha : ∀ i, 0 ≤ a i) (hb : ∀ i, 0 ≤ b i) (n : ℕ)
    (s : (Fin 10 → EReal) × (Fin 10 → EReal)) (hs : (∀ i, 0 ≤ s.1 i) ∧ ∀ i, 0 ≤ s.2 i) :
    (∀ i, 0 ≤ ((trip eps K a b)^[n] s).1 i) ∧ ∀ i, 0 ≤ ((trip eps K a b)^[n] s).2 i := by
  induction n with
  | zero => simpa using hs
  | succ n ih =>
    rw [Function.iterate_succ_apply']
    have hv := half_nonneg eps he K hK b _ hb ih.1
    exact ⟨half_nonneg eps he K hK a _ ha hv, hv⟩

/-- The row's loss with the costs folded into the kernel matrix beforehand, against the plan's entries times the costs:
    the products regrouped, and the row's scaling taken inside the sum, which nonnegativity allows. -/
theorem loss_eq (K M KM : Fin 10 → Fin 10 → EReal) (hKM : ∀ i j, KM i j = K i j * M i j) (hpos : ∀ i j, 0 ≤ KM i j)
    (u v : Fin 10 → EReal) (hu : ∀ i, 0 ≤ u i) (hv : ∀ i, 0 ≤ v i) :
    ∑ i, u i * ∑ j, KM i j * v j = ∑ i, ∑ j, u i * K i j * v j * M i j := by
  refine Finset.sum_congr rfl fun i _ => ?_
  rw [mul_sum_of_nonneg _ _ _ (hu i) fun j _ => mul_nonneg (hpos i j) (hv j)]
  refine Finset.sum_congr rfl fun j _ => ?_
  rw [hKM]
  ac_rfl

end Cert.Proof.Math

end
-- ==== Proof.KnnValue.lean ====
/-
  The nearest-neighbour kernel's results at the extended reals, entry by entry.
-/
module

public import proofs.«01_k».proof.Proof.KernelIdealMain
public import proofs.«01_k».proof.Proof.Math
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Pointwise

/-! ### The kernel's stages -/

section Stages

variable {F : FTy → Type} [FloatOps F] [Named F]

/-- The distances of the rows of one block from all the rows, whose transposed array is given. -/
def blockDist (x : FVec F S256x256 .f32) (xT : FVec F S256x4096 .f32) : FVec F S256x4096 .f32 :=
  let xT' : FVec F S256x4096 .f32 := shapeCast S256x4096 xT shapeCasts_S256x4096_S256x4096
  let a : FVec F S256x1 .f32 := shapeCast S256x1
    (multiReduction .add [1] S256 (mulf x x) 0x00000000#32 reduces_S256x256_S256 (.inl rfl) rfl) shapeCasts_S256_S256x1
  let b : FVec F S1x4096 .f32 := shapeCast S1x4096
    (multiReduction .add [0] S4096 (mulf xT' xT') 0x00000000#32 reduces_S256x4096_S4096 (.inl rfl) rfl) shapeCasts_S4096_S1x4096
  let two : FVec F S256x4096 .f32 := broadcast S256x4096 (Scalar.ofBits .f32 0x40000000#32)
  let zero : FVec F S256x4096 .f32 := broadcast S256x4096 (Scalar.ofBits .f32 0x00000000#32)
  sqrt (maximumf (subf (addf (broadcastTo S256x4096 a broadcasts_S256x1_S256x4096)
      (broadcastTo S256x4096 b broadcasts_S1x4096_S256x4096))
    (mulf two (matmul dot_S256x256_S256x4096_S256x4096_1_0_0_1_n_n none x xT'
      (constant S256x4096 .f32 0x00000000#32)))) zero)

/-- Each row's least entry, as a column. -/
def colMin (D : FVec F S256x4096 .f32) : FVec F S256x1 .f32 :=
  shapeCast S256x1 (multiReduction .minimumf [1] S256 D 0x7F800000#32 reduces_S256x4096_S256 (.inl rfl) rfl)
    shapeCasts_S256_S256x1

/-- The positions of a row, counted along it. -/
def place : IVec S256x4096 32 := iota .tc S256x4096 32 [1] iota_S256x4096_d1_w32

/-- Where a row attains its least entry. -/
def attains (D : FVec F S256x4096 .f32) : IVec S256x4096 1 :=
  cmpf .oeq D (broadcastTo S256x4096 (colMin D) broadcasts_S256x1_S256x4096)

/-- The first position marked in each row. -/
def firstAt (c : IVec S256x4096 1) : IVec S256 32 :=
  multiReductionI .minsi [1] S256 (select c place (broadcast S256x4096 4096#32)) 2147483647#32
    reduces_S256x4096_S256 rfl

/-- Marks one position in each row. -/
def markAt (f : IVec S256 32) : IVec S256x4096 1 :=
  cmpi .eq place (broadcastTo S256x4096 (shapeCast S256x1 f shapeCasts_S256_S256x1) broadcasts_S256x1_S256x4096)

/-- The marked entries replaced by the top. -/
def topAt (c : IVec S256x4096 1) (D : FVec F S256x4096 .f32) : FVec F S256x4096 .f32 :=
  select c (broadcast S256x4096 (Scalar.ofBits .f32 0x7F800000#32 : F .f32)) D

/-- Each row's first least entry replaced by the top. -/
def wipe (D : FVec F S256x4096 .f32) : FVec F S256x4096 .f32 := topAt (markAt (firstAt (attains D))) D

/-- Ten columns put side by side. -/
def tenCols (f0 f1 f2 f3 f4 f5 f6 f7 f8 f9 : FVec F S256x1 .f32) : FVec F S256x10 .f32 :=
  concatenate S256x10 1 [⟨S256x1, f0⟩, ⟨S256x1, f1⟩, ⟨S256x1, f2⟩, ⟨S256x1, f3⟩, ⟨S256x1, f4⟩, ⟨S256x1, f5⟩,
    ⟨S256x1, f6⟩, ⟨S256x1, f7⟩, ⟨S256x1, f8⟩, ⟨S256x1, f9⟩]
    concatenates_S256x1_S256x1_S256x1_S256x1_S256x1_S256x1_S256x1_S256x1_S256x1_S256x1_S256x10_d1

/-- Each row divided by its sum plus the small constant. -/
def toOne (Y : FVec F S256x10 .f32) : FVec F S256x10 .f32 :=
  divf Y (broadcastTo S256x10 (addf (shapeCast S256x1
      (multiReduction .add [1] S256 Y 0x00000000#32 reduces_S256x10_S256 (.inl rfl) rfl) shapeCasts_S256_S256x1)
    (broadcast S256x1 (Scalar.ofBits .f32 0x2EDBE6FF#32))) broadcasts_S256x1_S256x10)

/-- The least entry of each row once its `n` first least entries have been replaced, one after another. -/
def nth (D : FVec F S256x4096 .f32) (n : ℕ) : FVec F S256x1 .f32 := colMin (wipe^[n] D)

/-- The ten least entries after the first of each row of an array, scaled. -/
def nearest (D : FVec F S256x4096 .f32) : FVec F S256x10 .f32 :=
  toOne (tenCols (nth D 1) (nth D 2) (nth D 3) (nth D 4) (nth D 5) (nth D 6) (nth D 7) (nth D 8) (nth D 9) (nth D 10))

/-! ### Each printed stage, by the names above -/

theorem pay2_eq (x : FVec F S256x256 .f32) (xT : FVec F S256x4096 .f32) : k0_pay2 x xT = wipe (blockDist x xT) := rfl
theorem pay3_eq (x : FVec F S256x256 .f32) (xT : FVec F S256x4096 .f32) : k0_pay3 x xT = colMin (k0_pay2 x xT) := rfl
theorem pay4_eq (x : FVec F S256x256 .f32) (xT : FVec F S256x4096 .f32) :
    k0_pay4 x xT = markAt (firstAt (attains (k0_pay2 x xT))) := rfl

section Chain

variable (D : FVec F S256x4096 .f32) (c : IVec S256x4096 1) (i : F .f32) (f : IVec S256 32)

theorem pay5_eq : k0_pay5 D c (Scalar.ofBits .f32 0x7F800000#32) = topAt c D := rfl
theorem pay6_eq : k0_pay6 D c i = colMin (k0_pay5 D c i) := rfl
theorem pay7_eq : k0_pay7 place D c i = wipe (k0_pay5 D c i) := rfl
theorem pay8_eq : k0_pay8 place D c i = colMin (k0_pay7 place D c i) := rfl
theorem pay9_eq : k0_pay9 place D c i = wipe (k0_pay7 place D c i) := rfl
theorem pay10_eq : k0_pay10 place D c i = colMin (k0_pay9 place D c i) := rfl
theorem pay11_eq : k0_pay11 place D c i = wipe (k0_pay9 place D c i) := rfl
theorem pay12_eq : k0_pay12 place D c i = colMin (k0_pay11 place D c i) := rfl
theorem pay13_eq : k0_pay13 place D c i = firstAt (attains (k0_pay11 place D c i)) := rfl
theorem pay14_eq : k0_pay14 place D f = topAt (markAt f) D := rfl
theorem pay15_eq : k0_pay15 place D f = colMin (k0_pay14 place D f) := rfl
theorem pay16_eq : k0_pay16 place D f = wipe (k0_pay14 place D f) := rfl
theorem pay17_eq : k0_pay17 place D f = colMin (k0_pay16 place D f) := rfl
theorem pay18_eq : k0_pay18 place D f = wipe (k0_pay16 place D f) := rfl
theorem pay19_eq : k0_pay19 place D f = colMin (k0_pay18 place D f) := rfl
theorem pay20_eq : k0_pay20 place D f = wipe (k0_pay18 place D f) := rfl
theorem pay21_eq : k0_pay21 place D f = colMin (k0_pay20 place D f) := rfl
theorem pay22_eq : k0_pay22 place D f = attains (k0_pay20 place D f) := rfl

theorem pay23_eq (v33 v45 v57 v69 v81 v93 v105 v117 v129 : FVec F S256x1 .f32) :
    k0_pay23 place v33 v45 v57 v69 v81 v93 v105 v117 D v129 c 4096#32
      = toOne (tenCols v33 v45 v57 v69 v81 v93 v105 v117 v129 (colMin (topAt (markAt (firstAt c)) D))) := rfl

theorem pay24_eq (x : FVec F S256x256 .f32) (xT : FVec F S256x4096 .f32) : k0_pay24 x xT = blockDist x xT := rfl
theorem pay25_eq (x : FVec F S256x256 .f32) (xT : FVec F S256x4096 .f32) : k0_pay25 x xT = attains (k0_pay24 x xT) := rfl
theorem pay26_eq : k0_pay26 D place c = topAt (markAt (firstAt c)) D := rfl
theorem pay27_eq : k0_pay27 D place c = colMin (k0_pay26 D place c) := rfl
theorem pay28_eq : k0_pay28 D place c = wipe (k0_pay26 D place c) := rfl
theorem pay29_eq : k0_pay29 D place c = colMin (k0_pay28 D place c) := rfl
theorem pay30_eq : k0_pay30 D place c = wipe (k0_pay28 D place c) := rfl
theorem pay31_eq : k0_pay31 D place c = colMin (k0_pay30 D place c) := rfl
theorem pay32_eq : k0_pay32 D place c = wipe (k0_pay30 D place c) := rfl
theorem pay33_eq : k0_pay33 D = colMin D := rfl
theorem pay34_eq : k0_pay34 place D = wipe D := rfl
theorem pay35_eq : k0_pay35 place D = colMin (k0_pay34 place D) := rfl
theorem pay36_eq : k0_pay36 place D = wipe (k0_pay34 place D) := rfl
theorem pay37_eq : k0_pay37 place D = colMin (k0_pay36 place D) := rfl
theorem pay38_eq : k0_pay38 place D = wipe (k0_pay36 place D) := rfl
theorem pay39_eq : k0_pay39 place D = colMin (k0_pay38 place D) := rfl
theorem pay40_eq : k0_pay40 place D = markAt (firstAt (attains (k0_pay38 place D))) := rfl

theorem pay1_eq (v183 v195 v207 v219 v231 v243 v255 : FVec F S256x1 .f32) :
    k0_pay1 place v183 v195 v207 v219 v231 v243 D v255 c
      = toOne (tenCols v183 v195 v207 v219 v231 v243 v255 (colMin (topAt c D)) (colMin (wipe (topAt c D)))
          (colMin (wipe (wipe (topAt c D))))) := rfl

/-- Replacing the marked entry of each row is `wipe`. -/
theorem topAt_markAt : topAt (markAt (firstAt (attains D))) D = wipe D := rfl
/-- A stage's row minima are the entries `nth` names. -/
theorem colMin_eq_nth (n : ℕ) : colMin (wipe^[n] D) = nth D n := rfl

/-- One more entry replaced. -/
theorem wipe_iterate (n : ℕ) : wipe (wipe^[n] D) = wipe^[n + 1] D := (Function.iterate_succ_apply' wipe n D).symm

/-- The first replacement. -/
theorem wipe_once : wipe D = wipe^[1] D := by rw [Function.iterate_one]

end Chain

/-- The kernel's first result at a grid point is the scaled ten nearest of its block's distances. -/
theorem knnA_eq (x : FVec F S256x256 .f32) (xT : FVec F S256x4096 .f32) : knnA x xT = nearest (blockDist x xT) := by
  generalize hD : blockDist x xT = D
  have h2 : k0_pay2 x xT = wipe^[1] D := by rw [pay2_eq, hD, wipe_once]
  have h4 : k0_pay4 x xT = markAt (firstAt (attains (wipe^[1] D))) := by rw [pay4_eq, h2]
  have h3 : k0_pay3 x xT = nth D 1 := by rw [pay3_eq, h2, colMin_eq_nth]
  have hp : iota .tc S256x4096 32 [1] iota_S256x4096_d1_w32 = place := rfl
  unfold knnA nearest
  simp only [hp, h2, h3, h4, pay5_eq, pay6_eq, pay7_eq, pay8_eq, pay9_eq, pay10_eq, pay11_eq, pay12_eq, pay13_eq,
    pay14_eq, pay15_eq, pay16_eq, pay17_eq, pay18_eq, pay19_eq, pay20_eq, pay21_eq, pay22_eq, pay23_eq, topAt_markAt,
    wipe_iterate, colMin_eq_nth, Nat.reduceAdd]

/-- The kernel's second result at a grid point, likewise. -/
theorem knnB_eq (x : FVec F S256x256 .f32) (xT : FVec F S256x4096 .f32) : knnB x xT = nearest (blockDist x xT) := by
  generalize hD : blockDist x xT = D
  have h25 : k0_pay25 x xT = attains D := by rw [pay25_eq, pay24_eq, hD]
  have h24 : k0_pay24 x xT = D := by rw [pay24_eq, hD]
  have hp : iota .tc S256x4096 32 [1] iota_S256x4096_d1_w32 = place := rfl
  unfold knnB nearest
  simp only [hp, h24, h25, pay26_eq, pay27_eq, pay28_eq, pay29_eq, pay30_eq, pay31_eq, pay32_eq, pay33_eq, pay34_eq,
    pay35_eq, pay36_eq, pay37_eq, pay38_eq, pay39_eq, pay40_eq, pay1_eq, topAt_markAt]
  rw [wipe_once D]
  simp only [wipe_iterate, colMin_eq_nth, Nat.reduceAdd]

end Stages

/-- A block's distance, entry by entry. -/
theorem blockDist_apply (x : FVec Ideal S256x256 .f32) (xT : FVec Ideal S256x4096 .f32) (p : Fin 256) (j : Fin 4096) :
    blockDist x xT (ix2 p j) = Ideal.sqrt (max ((∑ k : Fin 256, x (ix2 p k) * x (ix2 p k)) + (∑ k : Fin 256, xT (ix2 k j) * xT (ix2 k j))
      - Ideal.ofBits .f32 0x40000000#32 * ∑ k : Fin 256, x (ix2 p k) * xT (ix2 k j)) 0) := by
  pointwise [blockDist]

/-- The printed infinity is the top. -/
theorem top_bits : Ideal.ofBits .f32 0x7F800000#32 = ⊤ := by
  simp [Ideal.ofBits, Ideal.ieee]

/-- A row's minimum. -/
theorem colMin_apply (D : FVec Ideal S256x4096 .f32) (p : Fin 256) (z : Fin 1) :
    colMin D (ix2 p z) = Math.rowMin fun j => D (ix2 p j) := by
  pointwise [colMin]
  rw [top_bits]
  rfl

/-- A row of ten over its guarded sum. -/
theorem toOne_apply (Y : FVec Ideal S256x10 .f32) (p : Fin 256) (t : Fin 10) :
    toOne Y (ix2 p t) = Ideal.div (Y (ix2 p t)) ((∑ s : Fin 10, Y (ix2 p s)) + Ideal.ofBits .f32 0x2EDBE6FF#32) := by
  pointwise [toOne]

/-- Ten columns side by side. -/
theorem tenCols_apply (f : Fin 10 → FVec Ideal S256x1 .f32) (p : Fin 256) (t : Fin 10) :
    tenCols (f 0) (f 1) (f 2) (f 3) (f 4) (f 5) (f 6) (f 7) (f 8) (f 9) (ix2 p t) = f t (ix2 p 0) := by
  fin_cases t <;> pointwise [tenCols]

/-- Replacing strikes the first least entry of each row. -/
theorem wipe_apply (D : FVec Ideal S256x4096 .f32) (p : Fin 256) (j : Fin 4096) :
    wipe D (ix2 p j) = Math.maskFirst (fun j => D (ix2 p j)) j := by
  obtain ⟨i, hi⟩ := Math.exists_firstMin (fun j => D (ix2 p j)) (by norm_num)
  pointwise [wipe, topAt, markAt, firstAt, attains, place, colMin_apply]
  rw [Math.first_place _ i hi, top_bits]
  by_cases h : j = i
  · subst h
    rw [show Math.maskFirst (fun j => D (ix2 p j)) j = ⊤ from if_pos hi]
    simp [Scalar.select, IntOp.cmpi]
  · have hne : BitVec.ofNat 32 j.val ≠ BitVec.ofNat 32 i.val := fun e => h (Fin.ext (by
      have := congrArg BitVec.toNat e
      simp only [BitVec.toNat_ofNat] at this
      omega))
    rw [show Math.maskFirst (fun j => D (ix2 p j)) j = D (ix2 p j) from if_neg (fun h' => h (Math.firstMin_unique h' hi))]
    simp [Scalar.select, IntOp.cmpi, beq_eq_false_iff_ne.mpr hne]

/-- Replacing `n` times strikes the first least entry of each row `n` times. -/
theorem wipe_iterate_apply (D : FVec Ideal S256x4096 .f32) (p : Fin 256) : ∀ n : ℕ,
    (fun j => (wipe^[n] D) (ix2 p j)) = Math.maskFirst^[n] fun j => D (ix2 p j)
  | 0 => rfl
  | n + 1 => by
    rw [Function.iterate_succ_apply', Function.iterate_succ_apply', ← wipe_iterate_apply D p n]
    exact funext fun j => wipe_apply _ p j

/-- The `n`-th stage's minimum is the row's `n`-th entry in order. -/
theorem nth_apply (D : FVec Ideal S256x4096 .f32) (p : Fin 256) (n : ℕ) (hn : n < 4096) :
    nth D n (ix2 p 0) = Math.kth (fun j => D (ix2 p j)) ⟨n, hn⟩ := by
  rw [← Math.rowMin_iterate _ n hn, ← wipe_iterate_apply, nth, colMin_apply]

/-- A row's scaled ten nearest, entry by entry. -/
theorem nearest_apply (D : FVec Ideal S256x4096 .f32) (p : Fin 256) (t : Fin 10) :
    nearest D (ix2 p t) = Math.near (Ideal.ofBits .f32 0x2EDBE6FF#32) (fun j => D (ix2 p j)) t := by
  have h : ∀ s : Fin 10, tenCols (nth D 1) (nth D 2) (nth D 3) (nth D 4) (nth D 5) (nth D 6) (nth D 7) (nth D 8) (nth D 9)
      (nth D 10) (ix2 p s) = Math.kth (fun j => D (ix2 p j)) ⟨s + 1, by omega⟩ := fun s =>
    (tenCols_apply (fun s => nth D (s.val + 1)) p s).trans (nth_apply D p (s.val + 1) (by omega))
  rw [nearest, toOne_apply]
  simp only [h]
  rfl

end Cert.Proof.KernelIdeal

end
-- ==== Proof.KnnArray.lean ====
/-
  The nearest-neighbour kernel's two result arrays after its grid, entry by entry.
-/
module

public import proofs.«01_k».proof.Proof.KnnValue
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Pointwise
open Idealize.ShloMosaic.Pipeline (Dat)

/-- The number 2, as printed. -/
abbrev two : EReal := Ideal.ofBits .f32 0x40000000#32
/-- The small constant added to every denominator, as printed. -/
abbrev eps : EReal := Ideal.ofBits .f32 0x2EDBE6FF#32

/-- Every row's ten scaled nearest distances to the rows of the same array. -/
def nearRows (X : FVec Ideal S4096x256 .f32) : FVec Ideal S4096x10 .f32 := fun y =>
  Math.near eps (Math.dist two (fun r k => X (ix2 r k)) (y 0)) (y 1)

variable (V : (c : Dev nD) → (b : Ref sig .tc) → Buf (Elt Ideal) ((c : Thread nD τ).loc b))

/-- The row blocks of the first three and last windows follow the grid; the transposed arrays are whole. -/
theorem index0_0 : ∀ t : Fin cfg0.N, win0_0.index t = ![t.val, 0] := (by decide +kernel : ∀ t : Fin grid0.N, _)
/-- Where window 1 lies at each grid point. -/
theorem index0_1 : ∀ t : Fin cfg0.N, win0_1.index t = ![0, 0] := (by decide +kernel : ∀ t : Fin grid0.N, _)
/-- Where window 2 lies at each grid point. -/
theorem index0_2 : ∀ t : Fin cfg0.N, win0_2.index t = ![t.val, 0] := (by decide +kernel : ∀ t : Fin grid0.N, _)
/-- Where window 3 lies at each grid point. -/
theorem index0_3 : ∀ t : Fin cfg0.N, win0_3.index t = ![0, 0] := (by decide +kernel : ∀ t : Fin grid0.N, _)
/-- Where window 4 lies at each grid point. -/
theorem index0_4 : ∀ t : Fin cfg0.N, win0_4.index t = ![t.val, 0] := (by decide +kernel : ∀ t : Fin grid0.N, _)
/-- Where window 5 lies at each grid point. -/
theorem index0_5 : ∀ t : Fin cfg0.N, win0_5.index t = ![t.val, 0] := (by decide +kernel : ∀ t : Fin grid0.N, _)

/-- Row `p` of block `t` as a row of the whole array. -/
def rowOf (t : Fin cfg0.N) (p : Fin 256) : Fin 4096 :=
  ⟨t.val * 256 + p.val, by have h : t.val < 16 := t.isLt.trans_eq N_0; omega⟩

/-- The first argument's block holds the rows of its grid point. -/
theorem blk0_0 (c : Dev nD) (t : Fin cfg0.N) (p : Fin 256) (k : Fin 256) :
    blk0 V c 0 t (ix2 p k) = V c main_arg0 (ix2 (rowOf t p) k) := by
  blk_simp [blk0]
  refine congrArg (V c main_arg0) ?_
  blk_ext [index0_0, rowOf]

/-- The first argument's transposed block is the whole array. -/
theorem blk0_1 (c : Dev nD) (t : Fin cfg0.N) (k : Fin 256) (j : Fin 4096) :
    blk0 V c 1 t (ix2 k j) = V c main_v0 (ix2 k j) := by
  blk_simp [blk0]
  refine congrArg (V c main_v0) ?_
  blk_ext [index0_1]

/-- The second argument's block holds the rows of its grid point. -/
theorem blk0_2 (c : Dev nD) (t : Fin cfg0.N) (p : Fin 256) (k : Fin 256) :
    blk0 V c 2 t (ix2 p k) = V c main_arg1 (ix2 (rowOf t p) k) := by
  blk_simp [blk0]
  refine congrArg (V c main_arg1) ?_
  blk_ext [index0_2, rowOf]

/-- The second argument's transposed block is the whole array. -/
theorem blk0_3 (c : Dev nD) (t : Fin cfg0.N) (k : Fin 256) (j : Fin 4096) :
    blk0 V c 3 t (ix2 k j) = V c main_v1 (ix2 k j) := by
  blk_simp [blk0]
  refine congrArg (V c main_v1) ?_
  blk_ext [index0_3]

/-- A block's scaled nearest distances are its rows' own, the second operand being the transposed array. -/
theorem nearest_block (X : FVec Ideal S4096x256 .f32) (x : FVec Ideal S256x256 .f32) (xT : FVec Ideal S256x4096 .f32)
    (r : Fin 256 → Fin 4096) (hx : ∀ p k, x (ix2 p k) = X (ix2 (r p) k)) (hT : ∀ k j, xT (ix2 k j) = X (ix2 j k))
    (p : Fin 256) (s : Fin 10) : nearest (blockDist x xT) (ix2 p s) = nearRows X (ix2 (r p) s) := by
  rw [nearest_apply]
  simp only [blockDist_apply, hx, hT]
  rfl

/-- A property of an index of a block of ten columns, from its coordinates. -/
theorem of_coords {P : S256x10.Idx → Prop} (h : ∀ p s, P (ix2 p s)) (y : S256x10.Idx) : P y := by
  rw [show y = ix2 (y 0) (y 1) by funext a; fin_cases a <;> rfl]
  exact h _ _

/-- What the body leaves in the staging buffer of window 4. -/
theorem after0_4 (c : Dev nD) (t : Fin cfg0.N) :
    (dat0 V c).after 4 t = knnA (F := Ideal) (blk0 V c 0 t) (blk0 V c 1 t) := by
  dsimp only [dat0]

/-- Where the first result block lies in its array. -/
theorem emb0_4 (t : Fin cfg0.N) (p : Fin 256) (s : Fin 10) : (win0_4.blk t).view.emb (ix2 p s) = ix2 (rowOf t p) s := by
  blk_ext [index0_4, rowOf]

/-- The first result array holds every row's scaled nearest distances of the first argument. -/
theorem arr4 (c : Dev nD) (hT : ∀ k j, V c main_v0 (ix2 k j) = V c main_arg0 (ix2 j k)) :
    (dat0 V c).arrAt 4 cfg0.N = nearRows (V c main_arg0) := by
  refine (dat0 V c).arrAt_eq_of_covers 4 _ (by decide +kernel) fun t hf y => ?_
  blk_simp
  rw [after0_4, knnA_eq]
  have h : ∀ (p : Fin 256) (s : Fin 10), nearest (blockDist (blk0 V c 0 t) (blk0 V c 1 t)) (ix2 p s)
      = nearRows (V c main_arg0) ((win0_4.blk t).view.emb (ix2 p s)) := fun p s => by
    refine (nearest_block (V c main_arg0) _ _ (rowOf t) (blk0_0 V c t)
      (fun k j => (blk0_1 V c t k j).trans (hT k j)) p s).trans ?_
    exact congrArg (nearRows (V c main_arg0)) (emb0_4 t p s).symm
  exact of_coords (P := fun y => nearest (blockDist (blk0 V c 0 t) (blk0 V c 1 t)) y
    = nearRows (V c main_arg0) ((win0_4.blk t).view.emb y)) h y

/-- What the body leaves in the staging buffer of window 5. -/
theorem after0_5 (c : Dev nD) (t : Fin cfg0.N) :
    (dat0 V c).after 5 t = knnB (F := Ideal) (blk0 V c 2 t) (blk0 V c 3 t) := by
  dsimp only [dat0]

/-- Where the second result block lies in its array. -/
theorem emb0_5 (t : Fin cfg0.N) (p : Fin 256) (s : Fin 10) : (win0_5.blk t).view.emb (ix2 p s) = ix2 (rowOf t p) s := by
  blk_ext [index0_5, rowOf]

/-- The second result array holds every row's scaled nearest distances of the second argument. -/
theorem arr5 (c : Dev nD) (hT : ∀ k j, V c main_v1 (ix2 k j) = V c main_arg1 (ix2 j k)) :
    (dat0 V c).arrAt 5 cfg0.N = nearRows (V c main_arg1) := by
  refine (dat0 V c).arrAt_eq_of_covers 5 _ (by decide +kernel) fun t hf y => ?_
  blk_simp
  rw [after0_5, knnB_eq]
  have h : ∀ (p : Fin 256) (s : Fin 10), nearest (blockDist (blk0 V c 2 t) (blk0 V c 3 t)) (ix2 p s)
      = nearRows (V c main_arg1) ((win0_5.blk t).view.emb (ix2 p s)) := fun p s => by
    refine (nearest_block (V c main_arg1) _ _ (rowOf t) (blk0_2 V c t)
      (fun k j => (blk0_3 V c t k j).trans (hT k j)) p s).trans ?_
    exact congrArg (nearRows (V c main_arg1)) (emb0_5 t p s).symm
  exact of_coords (P := fun y => nearest (blockDist (blk0 V c 2 t) (blk0 V c 3 t)) y
    = nearRows (V c main_arg1) ((win0_5.blk t).view.emb y)) h y

variable (m : (ℓ : Loc nD τ sig) → Buf (Elt Ideal) ℓ)

/-- The first region finds the first argument as given. -/
theorem W1_arg0 (c : Dev nD) : W1 m c main_arg0 = m ((c : Thread nD τ).loc main_arg0) := V1_of m c main_arg0 (by decide)
/-- The first region finds the second argument as given. -/
theorem W1_arg1 (c : Dev nD) : W1 m c main_arg1 = m ((c : Thread nD τ).loc main_arg1) := V1_of m c main_arg1 (by decide)

/-- The host transposes the arguments before the first region. -/
theorem host0_v0 (U : Valuation τ sig (Elt Ideal)) : StableHlo.after hostOps0 U (Proc.devRef .tc main_v0)
    = transpose S256x4096 [1, 0] (U (Proc.devRef .tc main_arg0)) transposes_S4096x256_S256x4096_1_0 := by
  after_results
/-- The second argument likewise. -/
theorem host0_v1 (U : Valuation τ sig (Elt Ideal)) : StableHlo.after hostOps0 U (Proc.devRef .tc main_v1)
    = transpose S256x4096 [1, 0] (U (Proc.devRef .tc main_arg1)) transposes_S4096x256_S256x4096_1_0 := by
  after_results

/-- The first region finds the first argument transposed. -/
theorem W1_v0_eq (c : Dev nD) : W1 m c main_v0
    = transpose S256x4096 [1, 0] (m ((c : Thread nD τ).loc main_arg0)) transposes_S4096x256_S256x4096_1_0 := host0_v0 (V0 m c)
/-- The first region finds the second argument transposed. -/
theorem W1_v1_eq (c : Dev nD) : W1 m c main_v1
    = transpose S256x4096 [1, 0] (m ((c : Thread nD τ).loc main_arg1)) transposes_S4096x256_S256x4096_1_0 := host0_v1 (V0 m c)

/-- An entry of a transposed argument. -/
theorem transpose_rows (X : FVec Ideal S4096x256 .f32) (k : Fin 256) (j : Fin 4096) :
    transpose S256x4096 [1, 0] X transposes_S4096x256_S256x4096_1_0 (ix2 k j) = X (ix2 j k) := by
  pointwise []

/-- The same, entry by entry. -/
theorem W1_v0 (c : Dev nD) (k : Fin 256) (j : Fin 4096) : W1 m c main_v0 (ix2 k j) = W1 m c main_arg0 (ix2 j k) := by
  rw [W1_arg0, W1_v0_eq]; exact transpose_rows _ k j
/-- The same for the second argument. -/
theorem W1_v1 (c : Dev nD) (k : Fin 256) (j : Fin 4096) : W1 m c main_v1 (ix2 k j) = W1 m c main_arg1 (ix2 j k) := by
  rw [W1_arg1, W1_v1_eq]; exact transpose_rows _ k j

/-- What the first region leaves in its two result arrays. -/
theorem W2_v2_0 (c : Dev nD) : W2 m c main_v2_0 = nearRows (m ((c : Thread nD τ).loc main_arg0)) := by
  rw [hout0_4, arr4 (W1 m) c (W1_v0 m c), W1_arg0]
/-- The second result array likewise. -/
theorem W2_v2_1 (c : Dev nD) : W2 m c main_v2_1 = nearRows (m ((c : Thread nD τ).loc main_arg1)) := by
  rw [hout0_5, arr5 (W1 m) c (W1_v1 m c), W1_arg1]

end Cert.Proof.KernelIdeal

end
-- ==== Proof.SinkValue.lean ====
/-
  The scaling kernel's trip and its final sum at the extended reals, entry by entry.
-/
module

public import proofs.«01_k».proof.Proof.KernelIdealRun
public import proofs.«01_k».proof.Proof.Math
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Pointwise

/-- The kernel's table entry at distance `d` from the diagonal, `exp(-d)` rounded. -/
def coef : ℕ → EReal
  | 0 => 1
  | 1 => Ideal.ofBits .f32 0x3EBC5AB1#32
  | 2 => Ideal.ofBits .f32 0x3E0A9555#32
  | 3 => Ideal.ofBits .f32 0x3D4BED86#32
  | 4 => Ideal.ofBits .f32 0x3C960AAE#32
  | 5 => Ideal.ofBits .f32 0x3BDCC9FE#32
  | 6 => Ideal.ofBits .f32 0x3B22728F#32
  | 7 => Ideal.ofBits .f32 0x3A6F0B5C#32
  | 8 => Ideal.ofBits .f32 0x39AFE108#32
  | _ => Ideal.ofBits .f32 0x39016791#32

/-- The distance from the diagonal of the table entry at row `j`, column `i`. -/
def gap (j i : Fin 10) : ℕ := (j.val - i.val) + (i.val - j.val)

/-- The kernel's table. -/
def table (j i : Fin 10) : EReal := coef (gap j i)

/-- A final coefficient of the kernel at distance `d` from the diagonal: the table's entry times the cost, multiplied
    beforehand. -/
def weight : ℕ → EReal
  | 0 => 0
  | 1 => Named.named (F := Ideal) κ "km1" (φ := .f32) 0x3D16AEF4#32
  | 2 => Named.named (F := Ideal) κ "km2" (φ := .f32) 0x3CDDBBBB#32
  | 3 => Named.named (F := Ideal) κ "km3" (φ := .f32) 0x3C74B6A1#32
  | 4 => Named.named (F := Ideal) κ "km4" (φ := .f32) 0x3BF01117#32
  | 5 => Named.named (F := Ideal) κ "km5" (φ := .f32) 0x3B5CC9FE#32
  | 6 => Named.named (F := Ideal) κ "km6" (φ := .f32) 0x3AC2EFDF#32
  | 7 => Named.named (F := Ideal) κ "km7" (φ := .f32) 0x3A2754C0#32
  | 8 => Named.named (F := Ideal) κ "km8" (φ := .f32) 0x398CB407#32
  | _ => Named.named (F := Ideal) κ "km9" (φ := .f32) 0x38E8ED9E#32

/-- The guard added to each denominator. -/
abbrev guard : EReal := Ideal.ofBits .f32 0x2EDBE6FF#32

/-- A sum of ten terms, written out from the left. -/
theorem sum_ten (f : Fin 10 → EReal) :
    ∑ i, f i = f 0 + f 1 + f 2 + f 3 + f 4 + f 5 + f 6 + f 7 + f 8 + f 9 := by
  simp only [Fin.sum_univ_castSucc, Fin.sum_univ_zero, zero_add]
  rfl

/-- The new `v` of one trip, entry by entry: the second histogram over the table times `u`. -/
theorem tripV_apply (v21 v23 : FVec Ideal S8x512 .f32) (v24 v26 v28 v30 v32 v34 v36 v38 : FVec Ideal S1x8x512 .f32)
    (b : Fin 10 → Fin 8 → Fin 512 → EReal) (u : FVec Ideal S10x8x512 .f32) (s : Fin 8) (l : Fin 512) (j : Fin 10)
    (h0 : v21 (ix2 s l) = b 0 s l) (h1 : v23 (ix2 s l) = b 1 s l) (h2 : v24 (ix3 0 s l) = b 2 s l)
    (h3 : v26 (ix3 0 s l) = b 3 s l) (h4 : v28 (ix3 0 s l) = b 4 s l) (h5 : v30 (ix3 0 s l) = b 5 s l)
    (h6 : v32 (ix3 0 s l) = b 6 s l) (h7 : v34 (ix3 0 s l) = b 7 s l) (h8 : v36 (ix3 0 s l) = b 8 s l)
    (h9 : v38 (ix3 0 s l) = b 9 s l) :
    tripV v21 v23 v24 v26 v28 v30 v32 v34 v36 v38 u (ix3 j s l)
      = Math.half guard table (fun j => b j s l) (fun i => u (ix3 i s l)) j := by
  unfold Math.half tripV
  rw [sum_ten]
  fin_cases j
  all_goals
    pointwise [k1_pay26]
    pointwise [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay70, k1_pay71, k1_pay72, k1_pay73, k1_pay74, k1_pay75, k1_pay76, k1_pay77]
    simp [table, guard, coef, gap, h0, h1, h2, h3, h4, h5, h6, h7, h8, h9]

/-- The new `u` of one trip, entry by entry: the first histogram over the table times `v`, whose first terms `p`, `q` the
    first part of the trip has formed. -/
theorem tripU_apply (v1 v3 v5 v7 v9 v11 v13 v15 v17 v19 : FVec Ideal S8x512 .f32) (a : Fin 10 → Fin 8 → Fin 512 → EReal)
    (v : FVec Ideal S10x8x512 .f32) (p : FVec Ideal S8x512 .f32) (q : FVec Ideal S1x8x512 .f32)
    (s : Fin 8) (l : Fin 512) (j : Fin 10)
    (hp : p (ix2 s l) = v (ix3 0 s l) + coef 1 * v (ix3 1 s l) + coef 2 * v (ix3 2 s l)) (hq : q (ix3 0 s l) = v (ix3 3 s l))
    (h0 : v1 (ix2 s l) = a 0 s l) (h1 : v3 (ix2 s l) = a 1 s l) (h2 : v5 (ix2 s l) = a 2 s l)
    (h3 : v7 (ix2 s l) = a 3 s l) (h4 : v9 (ix2 s l) = a 4 s l) (h5 : v11 (ix2 s l) = a 5 s l)
    (h6 : v13 (ix2 s l) = a 6 s l) (h7 : v15 (ix2 s l) = a 7 s l) (h8 : v17 (ix2 s l) = a 8 s l)
    (h9 : v19 (ix2 s l) = a 9 s l) :
    tripU v1 v3 v5 v7 v9 v11 v13 v15 v17 v19 v p q (ix3 j s l)
      = Math.half guard table (fun j => a j s l) (fun i => v (ix3 i s l)) j := by
  unfold Math.half tripU
  rw [sum_ten]
  simp only [coef] at hp
  fin_cases j
  all_goals
    pointwise [k1_pay79]
    pointwise [k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57]
    simp [table, guard, coef, gap, hp, hq, h0, h1, h2, h3, h4, h5, h6, h7, h8, h9]

/-- The row `(s, l)` of an array of ten planes. -/
def plane (X : FVec Ideal S10x8x512 .f32) (s : Fin 8) (l : Fin 512) (j : Fin 10) : EReal := X (ix3 j s l)

/-- The planes the loop starts from are all ones. -/
theorem ones_apply (j : Fin 10) (s : Fin 8) (l : Fin 512) : k1_pay78 (F := Ideal) (ix3 j s l) = 1 := by
  fin_cases j <;> pointwise [k1_pay78]

/-- A load of one plane reads that plane. -/
theorem ld_apply (X : FVec Ideal S10x8x512 .f32) (i : Fin 10) (s : Fin 8) (l : Fin 512)
    (inb : ∀ a : Fin 3, (![i.val, 0, 0] : Fin 3 → ℕ) a + S1x8x512.size a ≤ S10x8x512.size a) :
    ld X ![i.val, 0, 0] inb (ix3 0 s l) = plane X s l i := by
  unfold ld plane
  congr 1
  funext a
  apply Fin.ext
  fin_cases a <;> simp [Rect.unit, LoadRect.idx, ix3]

/-- The body of the kernel's loop over the marginals `A`, `B`. -/
abbrev loopBody (A B : FVec Ideal S10x8x512 .f32) (w : FVec Ideal S10x8x512 .f32 × FVec Ideal S10x8x512 .f32) :
    FVec Ideal S10x8x512 .f32 × FVec Ideal S10x8x512 .f32 :=
  trip (k1_pay58 (ld A ![0, 0, 0] inb_S10x8x512_S1x8x512_0_0_0)) (k1_pay59 (ld A ![1, 0, 0] inb_S10x8x512_S1x8x512_1_0_0)) (k1_pay60 (ld A ![2, 0, 0] inb_S10x8x512_S1x8x512_2_0_0)) (k1_pay61 (ld A ![3, 0, 0] inb_S10x8x512_S1x8x512_3_0_0)) (k1_pay62 (ld A ![4, 0, 0] inb_S10x8x512_S1x8x512_4_0_0)) (k1_pay63 (ld A ![5, 0, 0] inb_S10x8x512_S1x8x512_5_0_0)) (k1_pay64 (ld A ![6, 0, 0] inb_S10x8x512_S1x8x512_6_0_0)) (k1_pay65 (ld A ![7, 0, 0] inb_S10x8x512_S1x8x512_7_0_0)) (k1_pay66 (ld A ![8, 0, 0] inb_S10x8x512_S1x8x512_8_0_0)) (k1_pay67 (ld A ![9, 0, 0] inb_S10x8x512_S1x8x512_9_0_0))
    (k1_pay68 (ld B ![0, 0, 0] inb_S10x8x512_S1x8x512_0_0_0)) (k1_pay69 (ld B ![1, 0, 0] inb_S10x8x512_S1x8x512_1_0_0)) (ld B ![2, 0, 0] inb_S10x8x512_S1x8x512_2_0_0) (ld B ![3, 0, 0] inb_S10x8x512_S1x8x512_3_0_0) (ld B ![4, 0, 0] inb_S10x8x512_S1x8x512_4_0_0) (ld B ![5, 0, 0] inb_S10x8x512_S1x8x512_5_0_0) (ld B ![6, 0, 0] inb_S10x8x512_S1x8x512_6_0_0) (ld B ![7, 0, 0] inb_S10x8x512_S1x8x512_7_0_0) (ld B ![8, 0, 0] inb_S10x8x512_S1x8x512_8_0_0) (ld B ![9, 0, 0] inb_S10x8x512_S1x8x512_9_0_0) w

/-- One trip acts on the planes at the row `(s, l)` by itself, as a trip of the scaling of one row. -/
theorem loopBody_apply (A B : FVec Ideal S10x8x512 .f32) (w : FVec Ideal S10x8x512 .f32 × FVec Ideal S10x8x512 .f32)
    (s : Fin 8) (l : Fin 512) :
    (plane (loopBody A B w).1 s l, plane (loopBody A B w).2 s l)
      = Math.trip guard table (plane A s l) (plane B s l) (plane w.1 s l, plane w.2 s l) := by
  have hv : plane (loopBody A B w).2 s l = Math.half guard table (plane B s l) (plane w.1 s l) := by
    funext j
    exact tripV_apply _ _ _ _ _ _ _ _ _ _ (fun j s l => plane B s l j) w.1 s l j
      (by pointwise [k1_pay68]; exact ld_apply B 0 s l _)
      (by pointwise [k1_pay69]; exact ld_apply B 1 s l _)
      (ld_apply B 2 s l _)  (ld_apply B 3 s l _)  (ld_apply B 4 s l _)  (ld_apply B 5 s l _)  (ld_apply B 6 s l _)  (ld_apply B 7 s l _)  (ld_apply B 8 s l _)  (ld_apply B 9 s l _)
  refine Prod.ext ?_ hv
  funext j
  show plane (loopBody A B w).1 s l j = Math.half guard table (plane A s l) (Math.half guard table (plane B s l) (plane w.1 s l)) j
  rw [← hv]
  refine tripU_apply _ _ _ _ _ _ _ _ _ _ (fun j s l => plane A s l j) _ _ _ s l j ?_ ?_
      (by pointwise [k1_pay58]; exact ld_apply A 0 s l _)
      (by pointwise [k1_pay59]; exact ld_apply A 1 s l _)
      (by pointwise [k1_pay60]; exact ld_apply A 2 s l _)
      (by pointwise [k1_pay61]; exact ld_apply A 3 s l _)
      (by pointwise [k1_pay62]; exact ld_apply A 4 s l _)
      (by pointwise [k1_pay63]; exact ld_apply A 5 s l _)
      (by pointwise [k1_pay64]; exact ld_apply A 6 s l _)
      (by pointwise [k1_pay65]; exact ld_apply A 7 s l _)
      (by pointwise [k1_pay66]; exact ld_apply A 8 s l _)
      (by pointwise [k1_pay67]; exact ld_apply A 9 s l _)
  · pointwise [k1_pay27]
    rfl
  · pointwise [k1_pay28]

/-- The loop's pair of planes at the row `(s, l)`, after `n` trips. -/
theorem sinkState_apply (A B : FVec Ideal S10x8x512 .f32) (s : Fin 8) (l : Fin 512) (n : ℕ) :
    (plane (sinkState A B n).1 s l, plane (sinkState A B n).2 s l)
      = (Math.trip guard table (plane A s l) (plane B s l))^[n] (fun _ => 1, fun _ => 1) := by
  induction n with
  | zero => refine Prod.ext ?_ ?_ <;> funext j <;> exact ones_apply j s l
  | succ n ih =>
    rw [Function.iterate_succ_apply', ← ih, ← loopBody_apply]
    unfold sinkState
    rw [Function.iterate_succ_apply']

/-- What the kernel stores, from the final planes. -/
theorem sinkOut_apply (u v : FVec Ideal S10x8x512 .f32) :
    sinkOut u v (ix2 0 0)
      = Ideal.div (∑ s, ∑ l, ∑ i, plane u s l i * ∑ j, weight (gap i j) * plane v s l j) (Ideal.ofBits .f32 0x45800000#32) := by
  unfold sinkOut
  simp only [sum_ten, plane]
  pointwise [k1_pay1, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111]
  simp [weight, gap]

end Cert.Proof.KernelIdeal

end
-- ==== Proof.SinkArray.lean ====
/-
  The scaling kernel's operands and result, and the program's result, from the arguments' rows.
-/
module

public import proofs.«01_k».proof.Proof.KnnArray
public import proofs.«01_k».proof.Proof.SinkValue

@[expose] public section

set_option maxRecDepth 16384

noncomputable section

namespace Cert.Proof.KernelIdeal

open Cert.KernelIdeal Cert.KernelIdeal.Gen
open Idealize.ShloMosaic Idealize.ShloMosaic.TcCoe Idealize.ShloMosaic.Pointwise
open Idealize.ShloMosaic.Pipeline (Dat)

/-- The row of the whole array that lies at sublane `s`, lane `l` of each plane. -/
def rowAt (s : Fin 8) (l : Fin 512) : Fin 4096 := ⟨s.val * 512 + l.val, by omega⟩

section Arrays

variable (V : (c : Dev nD) → (b : Ref sig .tc) → Buf (Elt Ideal) ((c : Thread nD τ).loc b))

/-- Every window of the second region stays at its array's first block. -/
theorem index1_0 : ∀ t : Fin cfg1.N, win1_0.index t = ![0, 0, 0] := (by decide +kernel : ∀ t : Fin grid1.N, _)
/-- The second operand likewise. -/
theorem index1_1 : ∀ t : Fin cfg1.N, win1_1.index t = ![0, 0, 0] := (by decide +kernel : ∀ t : Fin grid1.N, _)

/-- Each window of the second region is its whole array. -/
theorem blk1_0 (c : Dev nD) (t : Fin cfg1.N) (j : Fin 10) (s : Fin 8) (l : Fin 512) :
    blk1 V c 0 t (ix3 j s l) = V c main_v4 (ix3 j s l) := by
  blk_simp [blk1]
  refine congrArg (V c main_v4) ?_
  blk_ext [index1_0]

/-- The second operand likewise. -/
theorem blk1_1 (c : Dev nD) (t : Fin cfg1.N) (j : Fin 10) (s : Fin 8) (l : Fin 512) :
    blk1 V c 1 t (ix3 j s l) = V c main_v6 (ix3 j s l) := by
  blk_simp [blk1]
  refine congrArg (V c main_v6) ?_
  blk_ext [index1_1]

/-- A property of an index of ten planes, from its coordinates. -/
theorem of_coords3 {P : S10x8x512.Idx → Prop} (h : ∀ j s l, P (ix3 j s l)) (y : S10x8x512.Idx) : P y := by
  rw [show y = ix3 (y 0) (y 1) (y 2) by funext a; fin_cases a <;> rfl]
  exact h _ _ _

/-- A property of the one index of a single cell. -/
theorem of_coords1 {P : S1x1.Idx → Prop} (h : P (ix2 0 0)) (y : S1x1.Idx) : P y := by
  rw [show y = ix2 0 0 by funext a; fin_cases a <;> exact Fin.eq_zero _]
  exact h

/-- What the body leaves in the staging buffer of the result. -/
theorem after1_2 (c : Dev nD) (t : Fin cfg1.N) :
    (dat1 V c).after 2 t = sink (F := Ideal) (blk1 V c 0 t) (blk1 V c 1 t) := by
  dsimp only [dat1]

/-- The second region's result is the kernel's on its two whole operands. -/
theorem arr1 (c : Dev nD) (A B : FVec Ideal S10x8x512 .f32) (hA : V c main_v4 = A) (hB : V c main_v6 = B) :
    (dat1 V c).arrAt 2 cfg1.N = fun _ => sink A B (ix2 0 0) := by
  refine (dat1 V c).arrAt_eq_of_covers 2 _ (by decide +kernel) fun t hf y => ?_
  blk_simp
  rw [after1_2]
  have hA' : blk1 V c 0 t = A := by
    rw [← hA]
    exact funext (of_coords3 (P := fun y => blk1 V c 0 t y = V c main_v4 y) (blk1_0 V c t))
  have hB' : blk1 V c 1 t = B := by
    rw [← hB]
    exact funext (of_coords3 (P := fun y => blk1 V c 1 t y = V c main_v6 y) (blk1_1 V c t))
  rw [hA', hB']
  exact of_coords1 (P := fun y => sink A B y = sink A B (ix2 0 0)) rfl y

end Arrays

variable (m : (ℓ : Loc nD τ sig) → Buf (Elt Ideal) ℓ)

/-- Between the regions the host transposes each array of nearest distances and folds its rows into planes. -/
theorem host1_v4 (U : Valuation τ sig (Elt Ideal)) : StableHlo.after hostOps1 U (Proc.devRef .tc main_v4)
    = shapeCast S10x8x512 (transpose S10x4096 [1, 0] (U (Proc.devRef .tc main_v2_0)) transposes_S4096x10_S10x4096_1_0)
        shapeCasts_S10x4096_S10x8x512 := by
  after_results
  all_goals rfl
/-- The second array likewise. -/
theorem host1_v6 (U : Valuation τ sig (Elt Ideal)) : StableHlo.after hostOps1 U (Proc.devRef .tc main_v6)
    = shapeCast S10x8x512 (transpose S10x4096 [1, 0] (U (Proc.devRef .tc main_v2_1)) transposes_S4096x10_S10x4096_1_0)
        shapeCasts_S10x4096_S10x8x512 := by
  after_results
  all_goals rfl

/-- An array of rows of ten, its columns folded into ten planes. -/
abbrev folded (X : FVec Ideal S4096x10 .f32) : FVec Ideal S10x8x512 .f32 :=
  shapeCast S10x8x512 (transpose S10x4096 [1, 0] X transposes_S4096x10_S10x4096_1_0) shapeCasts_S10x4096_S10x8x512

/-- Plane `j` at `(s, l)` is column `j` of the row there. -/
theorem folded_apply (X : FVec Ideal S4096x10 .f32) (j : Fin 10) (s : Fin 8) (l : Fin 512) :
    folded X (ix3 j s l) = X (ix2 (rowAt s l) j) := by
  pointwise []
  rfl

/-- The program's result is the second region's one cell. -/
theorem host2_v8 (U : Valuation τ sig (Elt Ideal)) (x : S_.Idx) : StableHlo.after hostOps2 U (Proc.devRef .tc main_v8) x
    = (U (Proc.devRef .tc main_v7) : FVec Ideal S1x1 .f32) (ix2 0 0) := by
  have h : StableHlo.after hostOps2 U (Proc.devRef .tc main_v8) = shapeCast S_ (U (Proc.devRef .tc main_v7) : FVec Ideal S1x1 .f32) shapeCasts_S1x1_S_ := by
    after_results
    all_goals rfl
  rw [h]
  pointwise []

/-- The operands of the second region, plane by plane. -/
theorem W3_v4 (c : Dev nD) : W3 m c main_v4 = folded (nearRows (m ((c : Thread nD τ).loc main_arg0))) := by
  rw [← W2_v2_0]
  exact host1_v4 (V2 m (outs m) c)
/-- The second operand likewise. -/
theorem W3_v6 (c : Dev nD) : W3 m c main_v6 = folded (nearRows (m ((c : Thread nD τ).loc main_arg1))) := by
  rw [← W2_v2_1]
  exact host1_v6 (V2 m (outs m) c)

/-- The two scalings of row `r` after fifty trips, towards the rows of `A` and `B`. -/
def scaled (A B : FVec Ideal S4096x10 .f32) (r : Fin 4096) : (Fin 10 → EReal) × (Fin 10 → EReal) :=
  (Math.trip guard table (fun t => A (ix2 r t)) (fun t => B (ix2 r t)))^[50] (fun _ => 1, fun _ => 1)

/-- The kernel's final planes hold each row's scalings. -/
theorem planes_eq (A B : FVec Ideal S4096x10 .f32) (s : Fin 8) (l : Fin 512) :
    (plane (sinkState (folded A) (folded B) 50).1 s l, plane (sinkState (folded A) (folded B) 50).2 s l) = scaled A B (rowAt s l) := by
  have h : ∀ X : FVec Ideal S4096x10 .f32, plane (folded X) s l = fun t => X (ix2 (rowAt s l) t) := fun X =>
    funext fun j => folded_apply X j s l
  rw [sinkState_apply, h A, h B, scaled]

/-- Folding the rows into planes keeps their sum. -/
theorem sum_rows (f : Fin 4096 → EReal) : ∑ s, ∑ l, f (rowAt s l) = ∑ r, f r := by
  rw [← Fintype.sum_prod_type']
  exact Fintype.sum_equiv (finProdFinEquiv (m := 8) (n := 512)) _ _ fun x =>
    congrArg f (Fin.ext (by simp [rowAt, finProdFinEquiv]; omega))

/-- The kernel's one result over folded rows: the mean over the rows of each row's weighted sum. -/
theorem sink_folded (A B : FVec Ideal S4096x10 .f32) : sink (folded A) (folded B) (ix2 0 0)
    = Ideal.div (∑ r, ∑ i, (scaled A B r).1 i * ∑ j, weight (gap i j) * (scaled A B r).2 j) (Ideal.ofBits .f32 0x45800000#32) := by
  unfold sink
  rw [sinkOut_apply, ← sum_rows]
  have h1 : ∀ s l, plane (sinkState (folded A) (folded B) 50).1 s l = (scaled A B (rowAt s l)).1 := fun s l =>
    congrArg Prod.fst (planes_eq A B s l)
  have h2 : ∀ s l, plane (sinkState (folded A) (folded B) 50).2 s l = (scaled A B (rowAt s l)).2 := fun s l =>
    congrArg Prod.snd (planes_eq A B s l)
  simp only [h1, h2]

/-- The program's one result, from the rows' scaled nearest distances. -/
theorem result (c : Dev nD) (x : S_.Idx) : V5 m (outs m) c main_v8 x
    = sink (folded (nearRows (m ((c : Thread nD τ).loc main_arg0)))) (folded (nearRows (m ((c : Thread nD τ).loc main_arg1)))) (ix2 0 0) := by
  refine (host2_v8 (V4 m (outs m) c) x).trans ?_
  exact congrFun ((hout1_2 m c).trans (arr1 (W3 m) c _ _ (W3_v4 m c) (W3_v6 m c))) (ix2 0 0)

end Cert.Proof.KernelIdeal

end
-- ==== Proof.Frames.lean ====
/-
  The four claims beside the algebraic one: each program runs to its end with its arguments unchanged and every
  semaphore back at zero, and the named constants are the printed ones at the exact reading.
-/
module

public import proofs.«01_k».proof.Defs
public import proofs.«01_k».proof.Proof.KernelMain
public import proofs.«01_k».proof.Proof.KernelIdealMain
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- The kernel program's frame, at float values. -/
theorem frame_p : Cert.quiescent_Kernel (hKernel := Cert.Kernel.Gen.facts) := fun m g _ =>
  (θ_run _ _ _).mono (fun _ h => ⟨fun c =>
    ⟨(h.1 c _ (Finset.mem_filter.mpr ⟨StableHlo.devRef_mem_tcRefs Cert.Kernel.main_arg0, by decide⟩)).trans
        (Cert.Kernel.Gen.V5_main_arg0 m (Kernel.outs m) c),
      (h.1 c _ (Finset.mem_filter.mpr ⟨StableHlo.devRef_mem_tcRefs Cert.Kernel.main_arg1, by decide⟩)).trans
        (Cert.Kernel.Gen.V5_main_arg1 m (Kernel.outs m) c)⟩, h.2⟩) (Kernel.run_main m g)

/-- The kernel program's frame, at the extended reals. -/
theorem frame_pi : Cert.quiescent_KernelIdeal (hKernelIdeal := Cert.KernelIdeal.Gen.facts) := fun m g _ =>
  (θ_run _ _ _).mono (fun _ h => ⟨fun c =>
    ⟨(h.1 c _ (Finset.mem_filter.mpr ⟨StableHlo.devRef_mem_tcRefs Cert.KernelIdeal.main_arg0, by decide⟩)).trans
        (Cert.KernelIdeal.Gen.V5_main_arg0 m (KernelIdeal.outs m) c),
      (h.1 c _ (Finset.mem_filter.mpr ⟨StableHlo.devRef_mem_tcRefs Cert.KernelIdeal.main_arg1, by decide⟩)).trans
        (Cert.KernelIdeal.Gen.V5_main_arg1 m (KernelIdeal.outs m) c)⟩, h.2⟩) (KernelIdeal.run_main m g)

section Reference

open Cert.ReferenceIdeal Cert.ReferenceIdeal.Gen Cert.ReferenceIdeal.Value StableHlo

variable {F : FTy → Type} [FloatOps F]
variable (m : (ℓ : Loc nD τ sig) → Buf (Elt F) ℓ) (ρ : Dev nD → PrngReg)

/-- A buffer no stretch of the reference writes before or inside its loop is at its launch contents when the loop ends. -/
theorem atK_kept (c : Dev nD) (r : Ref sig .tc) (h0 : r ∉ hostOps0_W) (h1 : r ∉ condOps_W) (h2 : r ∉ while0Ops0_W) :
    ∀ k, atK m k c (Proc.devRef .tc r) = launchContents m c (Proc.devRef .tc r)
  | 0 => after_of_writes_sub hostOps0 _ hostOps0_writes h0
  | k + 1 => by
    change after while0Ops0 (after condOps (atK m k c)) _ = _
    rw [after_of_writes_sub while0Ops0 _ while0Ops0_writes h2, after_of_writes_sub condOps _ condOps_writes h1,
      atK_kept c r h0 h1 h2 k]

/-- A buffer the loop does not write is, when the loop ends, what it was at the loop's entry. -/
theorem atK_entry (c : Dev nD) (r : Ref sig .tc) (h1 : r ∉ condOps_W) (h2 : r ∉ while0Ops0_W) :
    ∀ k, atK m k c (Proc.devRef .tc r) = entryContents preI m c (Proc.devRef .tc r)
  | 0 => rfl
  | k + 1 => by
    change after while0Ops0 (after condOps (atK m k c)) _ = _
    rw [after_of_writes_sub while0Ops0 _ while0Ops0_writes h2, after_of_writes_sub condOps _ condOps_writes h1,
      atK_entry c r h1 h2 k]

/-- The buffers the reference writes after its loop. -/
abbrev hostOps0_1_W : List (Ref sig .tc) := [main_v57, main_v58, main_v59, main_v60, main_v61, main_v62, main_v63, main_v64, main_v65, main_v66, main_v67, main_cst_18, main_v68, main_cst_19, main_v69, main_cst_20, main_v70]
/-- The last host stretch writes only the listed buffers. -/
theorem hostOps0_1_writes : (hostOps0_1 : List (HloOp τ sig (Elt F))).Forall fun op =>
    op.writes ⊆ (hostOps0_1_W.map (Proc.devRef (τ := τ) .tc)).toFinset :=
  StableHlo.forall_writes_sub_of_map rfl

/-- A buffer the reference never writes ends at its launch contents. -/
theorem final_kept (c : Dev nD) (r : Ref sig .tc) (h0 : r ∉ hostOps0_W) (h1 : r ∉ condOps_W) (h2 : r ∉ while0Ops0_W)
    (h3 : r ∉ hostOps0_1_W) :
    finalContents condOps preI bodyI postI 50 m c (Proc.devRef .tc r) = m ((c.tc : Thread nD τ).loc r) := by
  change after hostOps0_1 (after condOps (atK m 50 c)) _ = _
  rw [after_of_writes_sub hostOps0_1 _ hostOps0_1_writes h3, after_of_writes_sub condOps _ condOps_writes h1,
    atK_kept m c r h0 h1 h2 50]

/-- The reference leaves its first argument. -/
theorem final_arg0 (c : Dev nD) :
    finalContents condOps preI bodyI postI 50 m c (Proc.devRef .tc main_arg0) = m ((c.tc : Thread nD τ).loc main_arg0) :=
  final_kept m c main_arg0 (by decide +kernel) (by decide +kernel) (by decide +kernel) (by decide +kernel)

/-- The reference leaves its second argument. -/
theorem final_arg1 (c : Dev nD) :
    finalContents condOps preI bodyI postI 50 m c (Proc.devRef .tc main_arg1) = m ((c.tc : Thread nD τ).loc main_arg1) :=
  final_kept m c main_arg1 (by decide +kernel) (by decide +kernel) (by decide +kernel) (by decide +kernel)

/-- The reference's run: its result at the fold of its operations, its arguments unchanged, its counters at zero. -/
theorem ref_run : θ_run (defs (F := F)) (onTc (τ := τ) (main (F := F))) ⟨m, fun _ => 0, ρ⟩ (fun r => (∀ c : Dev nD,
      r.2.mem ((c.tc : Thread nD τ).loc main_v70) = finalContents condOps preI bodyI postI 50 m c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨h c main_v70 rfl, (h c main_arg0 rfl).trans (final_arg0 m c),
    (h c main_arg1 rfl).trans (final_arg1 m c)⟩, sem_eq_zero_of_no_sems (by decide) _⟩) (run_fold m ρ)

end Reference

/-- The reference's frame. -/
theorem frame_ri : Cert.quiescent_ReferenceIdeal (hReferenceIdeal := Cert.ReferenceIdeal.Gen.facts) := fun m g _ =>
  (θ_run _ _ _).mono (fun _ h => ⟨fun c => (h.1 c).2, h.2⟩) (ref_run m g)

/-- Each named constant is the printed one at float values and its named value at the extended reals. -/
theorem preserves : Cert.preserves_Kernel_KernelIdeal :=
  ⟨IdealRules.named_const.statement Cert.KernelIdeal.κ "km1" .f32 0x3D16AEF4#32 ((165678164585405 / 4503599627370496 : ℝ) : EReal) rfl,
    IdealRules.named_const.statement Cert.KernelIdeal.κ "km2" .f32 0x3CDDBBBB#32 ((121899186475281 / 4503599627370496 : ℝ) : EReal) rfl,
    IdealRules.named_const.statement Cert.KernelIdeal.κ "km3" .f32 0x3C74B6A1#32 ((33633153711655 / 2251799813685248 : ℝ) : EReal) rfl,
    IdealRules.named_const.statement Cert.KernelIdeal.κ "km4" .f32 0x3BF01117#32 ((65989046213291 / 9007199254740992 : ℝ) : EReal) rfl,
    IdealRules.named_const.statement Cert.KernelIdeal.κ "km5" .f32 0x3B5CC9FE#32 ((7234815 / 2147483648 : ℝ) : EReal) rfl,
    IdealRules.named_const.statement Cert.KernelIdeal.κ "km6" .f32 0x3AC2EFDF#32 ((53583874863235 / 36028797018963968 : ℝ) : EReal) rfl,
    IdealRules.named_const.statement Cert.KernelIdeal.κ "km7" .f32 0x3A2754C0#32 ((45995610973653 / 72057594037927936 : ℝ) : EReal) rfl,
    IdealRules.named_const.statement Cert.KernelIdeal.κ "km8" .f32 0x398CB407#32 ((19338103960173 / 72057594037927936 : ℝ) : EReal) rfl,
    IdealRules.named_const.statement Cert.KernelIdeal.κ "km9" .f32 0x38E8ED9E#32 ((64026814743779 / 576460752303423488 : ℝ) : EReal) rfl⟩

end Cert.Proof

end
-- ==== Proof.RefOps.lean ====
/-
  What the reference's buffers hold, as terms of its own operations: the distances, the ten nearest scaled to sum to
  one, the two scalings after a trip, and the loss of the final scalings.
-/
module

public import proofs.«01_k».proof.Proof.Frames

@[expose] public section

set_option maxRecDepth 16384

noncomputable section

namespace Cert.Proof.Reference

open Cert.ReferenceIdeal Cert.ReferenceIdeal.Gen Cert.ReferenceIdeal.Value
open Idealize.ShloMosaic Idealize.ShloMosaic.TcCoe StableHlo

variable {F : FTy → Type} [FloatOps F]

/-- The squared norm of each row. -/
def rowSq (X : FVec F S4096x256 .f32) : FVec F S4096 .f32 :=
  Host.reduceAdd (mulf X X) (constant S_ .f32 0x00000000#32) reducesTo_S4096x256_S4096_d1 h_S_

/-- The pairwise distances. -/
def dist (X : FVec F S4096x256 .f32) : FVec F S4096x4096 .f32 :=
  Host.sqrt (maximumf
    (subf
      (addf (broadcastInDim S4096x4096 ![0, 1] bcast_S4096x1_S4096x4096_0_1 (broadcastInDim S4096x1 ![0] bcast_S4096_S4096x1_0 (rowSq X)))
        (broadcastInDim S4096x4096 ![0, 1] bcast_S1x4096_S4096x4096_0_1 (broadcastInDim S1x4096 ![1] bcast_S4096_S1x4096_1 (rowSq X))))
      (mulf (broadcastInDim S4096x4096 ![] bcast_S_S4096x4096 (constant S_ .f32 0x40000000#32))
        (Host.dotGeneral dot_S4096x256_S256x4096_S4096x4096_1_0_0_1_n_n none X
          (transpose S256x4096 [1, 0] X transposes_S4096x256_S256x4096_1_0))))
    (broadcastInDim S4096x4096 ![] bcast_S_S4096x4096 (constant S_ .f32 0x00000000#32)))

/-- Each row's second to eleventh smallest distances. -/
def nearRaw (D : FVec F S4096x4096 .f32) : FVec F S4096x10 .f32 :=
  extractStridedSlice S4096x10 ![0, 1]
    (Host.negf (Host.topK S4096x11 1 (FloatOps.cmpfTotal .gt) (Host.negf D) sliceFits_S4096x4096_S4096x11).1)
    slices_S4096x11_S4096x10_0_1

/-- A row of ten scaled to sum to one. -/
def scaled (Y : FVec F S4096x10 .f32) : FVec F S4096x10 .f32 :=
  Host.divf Y (broadcastInDim S4096x10 ![0, 1] bcast_S4096x1_S4096x10_0_1
    (addf (broadcastInDim S4096x1 ![0] bcast_S4096_S4096x1_0
        (Host.reduceAdd Y (constant S_ .f32 0x00000000#32) reducesTo_S4096x10_S4096_d1 h_S_))
      (broadcastInDim S4096x1 ![] bcast_S_S4096x1 (constant S_ .f32 0x2EDBE6FF#32))))

/-- A row's ten nearest distances, scaled. -/
def near (X : FVec F S4096x256 .f32) : FVec F S4096x10 .f32 := scaled (nearRaw (dist X))

/-- The scalings before the loop. -/
def ones : FVec F S4096x10 .f32 :=
  broadcastInDim S4096x10 ![1] bcast_S10_S4096x10_1 (broadcastInDim S10 ![] bcast_S_S10 (constant S_ .f32 0x3F800000#32))

/-- The table of the first half-step. -/
def tab0 : FVec F S10x10 .f32 := fun i => FloatOps.ofBits .f32 (lit0 (S10x10.rowMajor i))
/-- The table of the second half-step and of the plan. -/
def tab1 : FVec F S10x10 .f32 := fun i => FloatOps.ofBits .f32 (lit1 (S10x10.rowMajor i))
/-- The table of the costs. -/
def tab2 : FVec F S10x10 .f32 := fun i => FloatOps.ofBits .f32 (lit2 (S10x10.rowMajor i))

/-- One half-step of the scaling. -/
def half (K : FVec F S10x10 .f32) (a w : FVec F S4096x10 .f32) : FVec F S4096x10 .f32 :=
  Host.divf a (transpose S4096x10 [1, 0]
    (addf (Host.dotGeneral dot_S10x10_S4096x10_S10x4096_1_1_0_0_n_n none K w)
      (broadcastInDim S10x4096 ![] bcast_S_S10x4096 (constant S_ .f32 0x2EDBE6FF#32)))
    transposes_S10x4096_S4096x10_1_0)

/-- The loss of the final scalings: the plan's entries times the costs, summed within each row, then over the rows, and
    divided by the number of rows. -/
def loss (K M : FVec F S10x10 .f32) (u v : FVec F S4096x10 .f32) : FVec F S_ .f32 :=
  Host.divf (Host.reduceAdd
    (Host.reduceAdd
      (mulf
        (mulf
          (mulf (broadcastInDim S4096x10x10 ![0, 1, 2] bcast_S4096x10x1_S4096x10x10_0_1_2 (broadcastInDim S4096x10x1 ![0, 1] bcast_S4096x10_S4096x10x1_0_1 u))
            (broadcastInDim S4096x10x10 ![0, 1, 2] bcast_S1x10x10_S4096x10x10_0_1_2 (broadcastInDim S1x10x10 ![1, 2] bcast_S10x10_S1x10x10_1_2 K)))
          (broadcastInDim S4096x10x10 ![0, 1, 2] bcast_S4096x1x10_S4096x10x10_0_1_2 (broadcastInDim S4096x1x10 ![0, 2] bcast_S4096x10_S4096x1x10_0_2 v)))
        (broadcastInDim S4096x10x10 ![0, 1, 2] bcast_S1x10x10_S4096x10x10_0_1_2 (broadcastInDim S1x10x10 ![1, 2] bcast_S10x10_S1x10x10_1_2 M)))
      (constant S_ .f32 0x00000000#32) reducesTo_S4096x10x10_S4096_d1_2 h_S_)
    (constant S_ .f32 0x00000000#32) reducesTo_S4096_S_d0 h_S_)
  (constant S_ .f32 0x45800000#32)

variable (V : Valuation τ sig (Elt F))

set_option maxHeartbeats 2000000

/-- The loop finds the first argument's scaled nearest distances. -/
theorem entry_a : after hostOps0 V (Proc.devRef .tc main_v56_3) = near (V (Proc.devRef .tc main_arg0)) := by
  after_results
  all_goals rfl

/-- The loop finds the second argument's scaled nearest distances. -/
theorem entry_b : after hostOps0 V (Proc.devRef .tc main_v56_1) = near (V (Proc.devRef .tc main_arg1)) := by
  after_results
  all_goals rfl

/-- The loop starts from ones for `u`. -/
theorem entry_u : after hostOps0 V (Proc.devRef .tc main_v56_5) = ones := by
  after_results
  all_goals rfl

/-- The loop starts from ones for `v`. -/
theorem entry_v : after hostOps0 V (Proc.devRef .tc main_v56_6) = ones := by
  after_results
  all_goals rfl

/-- The loop finds the transposed kernel matrix. -/
theorem entry_K0 : after hostOps0 V (Proc.devRef .tc main_v56_0) = tab0 := by
  after_results
  all_goals rfl

/-- The loop finds the kernel matrix. -/
theorem entry_K1 : after hostOps0 V (Proc.devRef .tc main_v56_2) = tab1 := by
  after_results
  all_goals rfl

/-- The kernel matrix stays for the last stretch. -/
theorem entry_tab1 : after hostOps0 V (Proc.devRef .tc main_cst_0) = tab1 := by
  after_results
  all_goals rfl

/-- The costs stay for the last stretch. -/
theorem entry_tab2 : after hostOps0 V (Proc.devRef .tc main_cst_1) = tab2 := by
  after_results
  all_goals rfl

/-- The scalings after `n` trips from given targets. -/
def state (a b : FVec F S4096x10 .f32) (n : ℕ) : FVec F S4096x10 .f32 × FVec F S4096x10 .f32 :=
  (fun s => (half tab1 a (half tab0 b s.1), half tab0 b s.1))^[n] (ones, ones)

/-- The carried buffers after `n` trips: tables and targets unchanged, the scalings stepped. -/
theorem step_iterate (a b : FVec F S4096x10 .f32)
    (ha : V (Proc.devRef .tc main_v56_3) = a) (hb : V (Proc.devRef .tc main_v56_1) = b)
    (h0 : V (Proc.devRef .tc main_v56_0) = tab0) (h1 : V (Proc.devRef .tc main_v56_2) = tab1)
    (hu : V (Proc.devRef .tc main_v56_5) = ones) (hv : V (Proc.devRef .tc main_v56_6) = ones) : ∀ n : ℕ,
    STEP^[n] V (Proc.devRef .tc main_v56_3) = a ∧ STEP^[n] V (Proc.devRef .tc main_v56_1) = b
    ∧ STEP^[n] V (Proc.devRef .tc main_v56_0) = tab0 ∧ STEP^[n] V (Proc.devRef .tc main_v56_2) = tab1
    ∧ STEP^[n] V (Proc.devRef .tc main_v56_5) = (state a b n).1 ∧ STEP^[n] V (Proc.devRef .tc main_v56_6) = (state a b n).2
  | 0 => ⟨ha, hb, h0, h1, hu, hv⟩
  | n + 1 => by
    obtain ⟨e1, e2, e3, e4, e5, e6⟩ := step_iterate a b ha hb h0 h1 hu hv n
    have hs : state a b (n + 1) = (half tab1 a (half tab0 b (state a b n).1), half tab0 b (state a b n).1) := by
      unfold state; rw [Function.iterate_succ_apply']
    have h75 : res_main_while0b_v75 (STEP^[n] V) = half tab0 b (state a b n).1 := by
      have h : res_main_while0b_v75 (STEP^[n] V) = half (STEP^[n] V (Proc.devRef .tc main_v56_0))
          (STEP^[n] V (Proc.devRef .tc main_v56_1)) (STEP^[n] V (Proc.devRef .tc main_v56_5)) := rfl
      rw [h, e2, e3, e5]
    rw [Function.iterate_succ_apply', STEP_main_v56_3, STEP_main_v56_1, STEP_main_v56_0, STEP_main_v56_2, STEP_main_v56_5,
      STEP_main_v56_6, hs]
    refine ⟨e1, e2, e3, e4, ?_, ?_⟩
    · show step_main_v56_5 (STEP^[n] V) = half tab1 a (half tab0 b (state a b n).1)
      have h : step_main_v56_5 (STEP^[n] V) = half (STEP^[n] V (Proc.devRef .tc main_v56_2))
          (STEP^[n] V (Proc.devRef .tc main_v56_3)) (res_main_while0b_v75 (STEP^[n] V)) := rfl
      rw [h, h75, e1, e4]
    · show step_main_v56_6 (STEP^[n] V) = half tab0 b (state a b n).1
      rw [← h75]; rfl

/-- The last stretch forms the loss of the final scalings. -/
theorem post_result (hc : V (Proc.devRef .tc main_cst_0) = tab1) (hm : V (Proc.devRef .tc main_cst_1) = tab2) :
    after hostOps0_1 V (Proc.devRef .tc main_v70)
      = loss tab1 tab2 (V (Proc.devRef .tc main_v56_5)) (V (Proc.devRef .tc main_v56_6)) := by
  have h : after hostOps0_1 V (Proc.devRef .tc main_v70)
      = loss (V (Proc.devRef .tc main_cst_0)) (V (Proc.devRef .tc main_cst_1)) (V (Proc.devRef .tc main_v56_5))
          (V (Proc.devRef .tc main_v56_6)) := by
    after_results
    all_goals rfl
  rw [h, hc, hm]

variable (m : (ℓ : Loc nD τ sig) → Buf (Elt F) ℓ)

/-- The reference's result: the loss of the scalings after fifty trips from the scaled nearest distances of the two
    arguments. -/
theorem final_result (c : Dev nD) :
    finalContents condOps preI bodyI postI 50 m c (Proc.devRef .tc main_v70)
      = loss tab1 tab2 (state (near (m ((c.tc : Thread nD τ).loc main_arg0))) (near (m ((c.tc : Thread nD τ).loc main_arg1))) 50).1
          (state (near (m ((c.tc : Thread nD τ).loc main_arg0))) (near (m ((c.tc : Thread nD τ).loc main_arg1))) 50).2 := by
  change after hostOps0_1 (after condOps (atK m 50 c)) _ = _
  have hk : ∀ r : Ref sig .tc, r ∉ condOps_W → after condOps (atK m 50 c) (Proc.devRef .tc r) = atK m 50 c (Proc.devRef .tc r) :=
    fun r hr => after_of_writes_sub condOps _ condOps_writes hr
  have hit := step_iterate (entryContents preI m c) _ _ (entry_a (launchContents m c)) (entry_b (launchContents m c))
    (entry_K0 _) (entry_K1 _) (entry_u _) (entry_v _) 50
  rw [post_result _
      ((hk main_cst_0 (by decide +kernel)).trans
        ((atK_entry m c main_cst_0 (by decide +kernel) (by decide +kernel) 50).trans (entry_tab1 _)))
      ((hk main_cst_1 (by decide +kernel)).trans
        ((atK_entry m c main_cst_1 (by decide +kernel) (by decide +kernel) 50).trans (entry_tab2 _))),
    hk main_v56_5 (by decide +kernel), hk main_v56_6 (by decide +kernel),
    atK_agree m c 50 main_v56_5 (by decide), atK_agree m c 50 main_v56_6 (by decide), hit.2.2.2.2.1, hit.2.2.2.2.2]

end Cert.Proof.Reference

end
-- ==== Proof.RefValue.lean ====
/-
  The reference's buffers at the extended reals, entry by entry.
-/
module

public import proofs.«01_k».proof.Proof.RefOps
public import proofs.«01_k».proof.Proof.Math
public import Idealize.ShloMosaic.Lib.Pointwise
public import Idealize.ShloMosaic.Lib.SortFacts

@[expose] public section

set_option maxRecDepth 16384

noncomputable section

namespace Cert.Proof.Reference

open Cert.ReferenceIdeal Cert.ReferenceIdeal.Gen
open Idealize.ShloMosaic Idealize.ShloMosaic.Pointwise

/-- The number 2, as printed. -/
abbrev two : EReal := Ideal.ofBits .f32 0x40000000#32
/-- The small constant added to every denominator, as printed. -/
abbrev eps : EReal := Ideal.ofBits .f32 0x2EDBE6FF#32

/-- The rows of an array. -/
abbrev rows (X : FVec Ideal S4096x256 .f32) : Fin 4096 → Fin 256 → EReal := fun r k => X (ix2 r k)

/-- A distance of the reference, entry by entry. -/
theorem dist_apply (X : FVec Ideal S4096x256 .f32) (r j : Fin 4096) :
    dist X (ix2 r j) = Math.dist two (rows X) r j := by
  pointwise [dist, rowSq]
  rfl

/-- A row of ten over its guarded sum. -/
theorem scaled_apply (Y : FVec Ideal S4096x10 .f32) (r : Fin 4096) (t : Fin 10) :
    scaled Y (ix2 r t) = Ideal.div (Y (ix2 r t)) ((∑ s : Fin 10, Y (ix2 r s)) + eps) := by
  pointwise [scaled]

/-- A half-step of the scaling, entry by entry. -/
theorem half_apply (K : FVec Ideal S10x10 .f32) (a w : FVec Ideal S4096x10 .f32) (r : Fin 4096) (j : Fin 10) :
    half K a w (ix2 r j) = Math.half eps (fun j i => K (ix2 j i)) (fun t => a (ix2 r t)) (fun t => w (ix2 r t)) j := by
  pointwise [half, Math.half]

/-- The starting scalings are ones. -/
theorem ones_apply (r : Fin 4096) (j : Fin 10) : ones (F := Ideal) (ix2 r j) = 1 := by
  pointwise [ones]

/-- The mean over the rows of the plan times the costs. -/
theorem loss_apply (K M : FVec Ideal S10x10 .f32) (u v : FVec Ideal S4096x10 .f32) (x : S_.Idx) :
    loss K M u v x = Ideal.div (∑ r : Fin 4096, ∑ i : Fin 10, ∑ j : Fin 10,
      u (ix2 r i) * K (ix2 i j) * v (ix2 r j) * M (ix2 i j)) (Ideal.ofBits .f32 0x45800000#32) := by
  pointwise [loss]

/-- The host's descending sort of the negated entries lists a row's entries in increasing order. -/
theorem sorted_kth (f : Fin 4096 → EReal) (t : Fin 4096) :
    f (sortedFrom (fun k k' => FloatOps.cmpfTotal (F := Ideal) (φ := .f32) .gt (-(f k)) (-(f k')) == 1#1) t) = Math.kth f t := by
  have hB : (fun k k' => FloatOps.cmpfTotal (F := Ideal) (φ := .f32) .gt (-(f k)) (-(f k')) == 1#1)
      = fun k k' => decide (f k < f k') := by
    funext k k'
    have hc : FloatOps.cmpfTotal (F := Ideal) (φ := .f32) .gt (-(f k)) (-(f k'))
        = BitVec.ofBool (decide (-(f k') < -(f k))) := rfl
    rw [hc]
    simp only [EReal.neg_lt_neg_iff]
    by_cases h : f k < f k' <;> simp [h]
  rw [hB]
  refine Math.eq_kth_of_sorted f _ (sortedFrom_injective _) (fun s t hst => ?_) t
  have h := sortedFrom_noInversion (fun k k' => decide (f k < f k')) (fun k k' => decide (f k < f k'))
    (fun a b h => by simp only [decide_eq_true_eq, decide_eq_false_iff_not, not_lt] at *; exact h.le)
    (fun _ _ h => h)
    (fun a b c h h' => by simp only [decide_eq_false_iff_not, not_lt] at *; exact h'.trans h) s t hst
  simpa using h

/-- The first component of a two-operand sort along the rows of an array, compared by that component: each row at the
    stable sort of its own positions. -/
theorem sort2_row {m n : ℕ} {α β : Type} (cmp : α → α → BitVec 1) (x : (⟨2, ![m, n]⟩ : Shape).Idx → α)
    (y : (⟨2, ![m, n]⟩ : Shape).Idx → β) (r : Fin m) (c : Fin n) :
    (Host.sort2 ⟨2, ![m, n]⟩ 1 (fun l r => cmp l.1 r.1) x y).1 (ix2 r c)
      = x (ix2 r (sortedFrom (fun k k' => cmp (x (ix2 r k)) (x (ix2 r k')) == 1#1) c)) := by
  have hal : ∀ k : Fin n, Shape.Idx.along (s := ⟨2, ![m, n]⟩) (ix2 r c) (1 : Fin 2) k = ix2 r k := fun k => by
    funext a
    match a with
    | ⟨0, _⟩ => rfl
    | ⟨1, _⟩ => rfl
  exact congrArg (fun g : Fin n → (⟨2, ![m, n]⟩ : Shape).Idx =>
    x (g (sortedFrom (fun k k' => cmp (x (g k)) (x (g k')) == 1#1) c))) (funext hal)

/-- The sorted distances after the first are the row's entries in order. -/
theorem nearRaw_apply (D : FVec Ideal S4096x4096 .f32) (r : Fin 4096) (t : Fin 10) :
    nearRaw D (ix2 r t) = Math.kth (fun j => D (ix2 r j)) ⟨t + 1, by omega⟩ := by
  rw [← sorted_kth]
  pointwise [nearRaw, Host.topK]
  rw [sort2_row]
  have hneg : ∀ i, Host.negf D i = -(D i) := fun _ => rfl
  simp only [hneg, neg_neg]
  rw [show (⟨1 + (t : ℕ), by omega⟩ : Fin 4096) = ⟨t + 1, by omega⟩ from Fin.ext (Nat.add_comm _ _)]

/-- The scaled nearest distances, entry by entry. -/
theorem near_apply (X : FVec Ideal S4096x256 .f32) (r : Fin 4096) (t : Fin 10) :
    near X (ix2 r t) = Math.near eps (Math.dist two (rows X) r) t := by
  simp only [near, scaled_apply, nearRaw_apply, dist_apply]
  rfl

/-- The scalings of row `r` after `n` trips are the row's own scaling iteration. -/
theorem state_apply (a b : FVec Ideal S4096x10 .f32) (r : Fin 4096) : ∀ n : ℕ,
    (fun t => (state a b n).1 (ix2 r t), fun t => (state a b n).2 (ix2 r t))
      = (fun s => (Math.half eps (fun j i => tab1 (F := Ideal) (ix2 j i)) (fun t => a (ix2 r t))
            (Math.half eps (fun j i => tab0 (F := Ideal) (ix2 j i)) (fun t => b (ix2 r t)) s.1),
          Math.half eps (fun j i => tab0 (F := Ideal) (ix2 j i)) (fun t => b (ix2 r t)) s.1))^[n]
        ((fun _ => 1 : Fin 10 → EReal), (fun _ => 1 : Fin 10 → EReal))
  | 0 => by
    simp only [state, Function.iterate_zero, id_eq, ones_apply]
  | n + 1 => by
    have hs : state a b (n + 1) = (half tab1 a (half tab0 b (state a b n).1), half tab0 b (state a b n).1) := by
      unfold state; rw [Function.iterate_succ_apply']
    rw [Function.iterate_succ_apply', ← state_apply a b r n, hs]
    simp only [half_apply]

end Cert.Proof.Reference

end
-- ==== Proof.Consts.lean ====
/-
  The float constants the two programs spell, as the reals their patterns denote.
-/
module

public import Idealize.ShloMosaic.PureOps.Ideal

@[expose] public section

noncomputable section

namespace Cert.Proof.Consts

open Idealize.ShloMosaic

/-- The pattern of `exp(-d)`, for `d` up to nine. -/
def kernelBits : ℕ → BitVec 32
  | 0 => 0x3F800000#32
  | 1 => 0x3EBC5AB1#32
  | 2 => 0x3E0A9555#32
  | 3 => 0x3D4BED86#32
  | 4 => 0x3C960AAE#32
  | 5 => 0x3BDCC9FE#32
  | 6 => 0x3B22728F#32
  | 7 => 0x3A6F0B5C#32
  | 8 => 0x39AFE108#32
  | _ => 0x39016791#32

/-- The pattern of the cost `d / 10`, for `d` up to nine. -/
def costBits : ℕ → BitVec 32
  | 0 => 0x00000000#32
  | 1 => 0x3DCCCCCD#32
  | 2 => 0x3E4CCCCD#32
  | 3 => 0x3E99999A#32
  | 4 => 0x3ECCCCCD#32
  | 5 => 0x3F000000#32
  | 6 => 0x3F19999A#32
  | 7 => 0x3F333333#32
  | 8 => 0x3F4CCCCD#32
  | _ => 0x3F666666#32

/-- The real that `kernelBits` denotes. -/
def kernelReal : ℕ → ℝ
  | 0 => 1
  | 1 => 12343985 / 33554432
  | 2 => 9082197 / 67108864
  | 3 => 6682307 / 134217728
  | 4 => 4916567 / 268435456
  | 5 => 7234815 / 1073741824
  | 6 => 10646159 / 4294967296
  | 7 => 3916503 / 4294967296
  | 8 => 1440801 / 4294967296
  | _ => 8480657 / 68719476736

/-- The real that `costBits` denotes. -/
def costReal : ℕ → ℝ
  | 0 => 0
  | 1 => 13421773 / 134217728
  | 2 => 13421773 / 67108864
  | 3 => 5033165 / 16777216
  | 4 => 13421773 / 33554432
  | 5 => 1 / 2
  | 6 => 5033165 / 8388608
  | 7 => 11744051 / 16777216
  | 8 => 13421773 / 16777216
  | _ => 7549747 / 8388608

/-- Each pattern of the kernel matrix denotes its real. -/
theorem kernel_eq (d : ℕ) : Ideal.ofBits .f32 (kernelBits d) = ((kernelReal d : ℝ) : EReal) := by
  unfold kernelBits kernelReal
  split <;> (simp [Ideal.ofBits, Ideal.ieee, -EReal.coe_mul]; try norm_num)

/-- Each pattern of the costs denotes its real. -/
theorem cost_eq (d : ℕ) : Ideal.ofBits .f32 (costBits d) = ((costReal d : ℝ) : EReal) := by
  unfold costBits costReal
  split <;> (simp [Ideal.ofBits, Ideal.ieee, -EReal.coe_mul]; try norm_num)

/-- The guard is positive. -/
theorem guard_pos : 0 < Ideal.ofBits .f32 0x2EDBE6FF#32 := by
  have h : Ideal.ofBits .f32 0x2EDBE6FF#32 = ((14411519 / 144115188075855872 : ℝ) : EReal) := by
    simp [Ideal.ofBits, Ideal.ieee, -EReal.coe_mul]; norm_num
  rw [h]
  exact EReal.coe_pos.mpr (by norm_num)

end Cert.Proof.Consts

end
-- ==== Proof.Algebraic.lean ====
/-
  The kernel program and the reference compute the same extended real.
-/
module

public import proofs.«01_k».proof.Proof.SinkArray
public import proofs.«01_k».proof.Proof.RefValue
public import proofs.«01_k».proof.Proof.Frames
public import proofs.«01_k».proof.Proof.Consts

@[expose] public section

set_option maxRecDepth 16384

noncomputable section

namespace Cert.Proof

open Idealize.ShloMosaic Idealize.ShloMosaic.TcCoe Idealize.ShloMosaic.Pointwise
open Cert.Proof.KernelIdeal (coef weight table gap guard)
open Cert.Proof.Reference (tab0 tab1 tab2)
open Cert.ReferenceIdeal (lit0 lit1 lit2 S10x10 S4096x10 S4096x256 S_)

/-! ## The tables -/

/-- The reference's two copies of the kernel matrix are patterns of `exp(-d)` by the distance from the diagonal. -/
theorem lit0_eq : ∀ i j : Fin 10, lit0 (S10x10.rowMajor (ix2 i j)) = Consts.kernelBits (gap i j) := by decide +kernel
/-- The second copy likewise. -/
theorem lit1_eq : ∀ i j : Fin 10, lit1 (S10x10.rowMajor (ix2 i j)) = Consts.kernelBits (gap i j) := by decide +kernel

/-- The reference's costs are patterns of `d / 10` by the distance from the diagonal. -/
theorem lit2_eq : ∀ i j : Fin 10, lit2 (S10x10.rowMajor (ix2 i j)) = Consts.costBits (gap i j) := by decide +kernel

/-- The kernel's table entry is the real its pattern denotes. -/
theorem coef_eq (d : ℕ) : coef d = ((Consts.kernelReal d : ℝ) : EReal) := by
  rw [← Consts.kernel_eq]
  rcases d with _ | _ | _ | _ | _ | _ | _ | _ | _ | d
  · rw [Consts.kernel_eq]; exact EReal.coe_one.symm
  all_goals rfl

/-- The named constants, at the extended reals. -/
def weightReal : ℕ → ℝ
  | 0 => 0
  | 1 => 165678164585405 / 4503599627370496
  | 2 => 121899186475281 / 4503599627370496
  | 3 => 33633153711655 / 2251799813685248
  | 4 => 65989046213291 / 9007199254740992
  | 5 => 7234815 / 2147483648
  | 6 => 53583874863235 / 36028797018963968
  | 7 => 45995610973653 / 72057594037927936
  | 8 => 19338103960173 / 72057594037927936
  | _ => 64026814743779 / 576460752303423488

/-- Each final coefficient of the kernel is the real it is named as. -/
theorem weight_eq (d : ℕ) : weight d = ((weightReal d : ℝ) : EReal) := by
  rcases d with _ | _ | _ | _ | _ | _ | _ | _ | _ | d
  · exact EReal.coe_zero.symm
  all_goals exact IdealRules.named_const.ideal_named_scalar _ _ _ _ rfl

/-- Each named constant is exactly the kernel matrix's entry times the cost. -/
theorem weightReal_eq (d : ℕ) : weightReal d = Consts.kernelReal d * Consts.costReal d := by
  rcases d with _ | _ | _ | _ | _ | _ | _ | _ | _ | d
  on_goal 10 => show (64026814743779 / 576460752303423488 : ℝ) = 8480657 / 68719476736 * (7549747 / 8388608)
  all_goals norm_num [weightReal, Consts.kernelReal, Consts.costReal]

/-- The kernel matrix has no negative entry. -/
theorem kernelReal_nonneg (d : ℕ) : 0 ≤ Consts.kernelReal d := by
  unfold Consts.kernelReal
  split <;> norm_num
/-- No final coefficient is negative. -/
theorem weightReal_nonneg (d : ℕ) : 0 ≤ weightReal d := by
  unfold weightReal
  split <;> norm_num

/-- The reference's transposed kernel matrix is the kernel's table. -/
theorem tab0_eq (i j : Fin 10) : tab0 (F := Ideal) (ix2 i j) = table i j := by
  show Ideal.ofBits .f32 (lit0 (S10x10.rowMajor (ix2 i j))) = coef (gap i j)
  rw [lit0_eq, Consts.kernel_eq, coef_eq]
/-- The reference's kernel matrix is the kernel's table. -/
theorem tab1_eq (i j : Fin 10) : tab1 (F := Ideal) (ix2 i j) = table i j := by
  show Ideal.ofBits .f32 (lit1 (S10x10.rowMajor (ix2 i j))) = coef (gap i j)
  rw [lit1_eq, Consts.kernel_eq, coef_eq]

/-- The kernel's final coefficients are the reference's kernel matrix times its costs. -/
theorem weight_tab (i j : Fin 10) : weight (gap i j) = tab1 (F := Ideal) (ix2 i j) * tab2 (F := Ideal) (ix2 i j) := by
  rw [tab1_eq]
  show _ = coef (gap i j) * Ideal.ofBits .f32 (lit2 (S10x10.rowMajor (ix2 i j)))
  rw [lit2_eq, Consts.cost_eq, coef_eq, weight_eq, weightReal_eq, EReal.coe_mul]

/-- The kernel's table has no negative entry. -/
theorem table_nonneg (i j : Fin 10) : 0 ≤ table i j := by
  show 0 ≤ coef (gap i j)
  rw [coef_eq]
  exact EReal.coe_nonneg.mpr (kernelReal_nonneg _)

/-! ## The rows -/

/-- The two programs find the same scaled nearest distances. -/
theorem near_eq (X : FVec Ideal S4096x256 .f32) (r : Fin 4096) (t : Fin 10) :
    Reference.near X (ix2 r t) = KernelIdeal.nearRows X (ix2 r t) := by
  rw [Reference.near_apply]
  rfl

/-- The scaled nearest distances are nonnegative. -/
theorem nearRows_nonneg (X : FVec Ideal S4096x256 .f32) (r : Fin 4096) (t : Fin 10) : 0 ≤ KernelIdeal.nearRows X (ix2 r t) :=
  Math.near_nonneg _ Consts.guard_pos _ (fun j => Math.dist_nonneg _ _ _ j) t

/-- The reference's scalings of a row are the kernel's. -/
theorem state_eq (X Y : FVec Ideal S4096x256 .f32) (r : Fin 4096) :
    (fun t => (Reference.state (Reference.near X) (Reference.near Y) 50).1 (ix2 r t),
      fun t => (Reference.state (Reference.near X) (Reference.near Y) 50).2 (ix2 r t))
      = KernelIdeal.scaled (KernelIdeal.nearRows X) (KernelIdeal.nearRows Y) r := by
  rw [Reference.state_apply]
  simp only [tab0_eq, tab1_eq, near_eq]
  rfl

/-- The kernel's scalings of a row are nonnegative. -/
theorem scaled_nonneg (X Y : FVec Ideal S4096x256 .f32) (r : Fin 4096) :
    (∀ i, 0 ≤ (KernelIdeal.scaled (KernelIdeal.nearRows X) (KernelIdeal.nearRows Y) r).1 i)
      ∧ ∀ i, 0 ≤ (KernelIdeal.scaled (KernelIdeal.nearRows X) (KernelIdeal.nearRows Y) r).2 i :=
  Math.trip_nonneg _ Consts.guard_pos _ table_nonneg _ _ (nearRows_nonneg X r) (nearRows_nonneg Y r) 50 _
    ⟨fun _ => zero_le_one, fun _ => zero_le_one⟩

/-- The kernel's one result is the reference's. -/
theorem value_eq (X Y : FVec Ideal S4096x256 .f32) (x : S_.Idx) :
    KernelIdeal.sink (KernelIdeal.folded (KernelIdeal.nearRows X)) (KernelIdeal.folded (KernelIdeal.nearRows Y)) (ix2 0 0)
      = Reference.loss tab1 tab2 (Reference.state (Reference.near X) (Reference.near Y) 50).1
          (Reference.state (Reference.near X) (Reference.near Y) 50).2 x := by
  rw [KernelIdeal.sink_folded, Reference.loss_apply]
  refine congrArg (fun s => Ideal.div s _) (Finset.sum_congr rfl fun r _ => ?_)
  obtain ⟨hu, hv⟩ := scaled_nonneg X Y r
  refine (Math.loss_eq (fun i j => tab1 (F := Ideal) (ix2 i j)) (fun i j => tab2 (F := Ideal) (ix2 i j)) (fun i j => weight (gap i j))
    weight_tab (fun i j => ?_) _ _ hu hv).trans ?_
  · show 0 ≤ weight (gap i j)
    rw [weight_eq]
    exact EReal.coe_nonneg.mpr (weightReal_nonneg _)
  · rw [← state_eq]

/-- The kernel program at the extended reals returns what the reference returns. -/
theorem algebraic : Cert.algebraic_KernelIdeal_ReferenceIdeal (hKernelIdeal := Cert.KernelIdeal.Gen.facts)
    (hReferenceIdeal := Cert.ReferenceIdeal.Gen.facts) := fun m g m' g' _ hm => by
  refine ⟨fun c => Cert.KernelIdeal.Gen.V5 m (KernelIdeal.outs m) c Cert.KernelIdeal.main_v8, ?_, ?_⟩
  · refine (θ_run _ _ _).mono (fun r h c => ⟨?_, ?_, ?_⟩) (KernelIdeal.run_main m g)
    · exact h.1 c (Proc.devRef .tc Cert.KernelIdeal.main_v8) (Finset.mem_filter.mpr ⟨StableHlo.devRef_mem_tcRefs Cert.KernelIdeal.main_v8, by decide⟩)
    · exact (h.1 c _ (Finset.mem_filter.mpr ⟨StableHlo.devRef_mem_tcRefs Cert.KernelIdeal.main_arg0, by decide⟩)).trans
        (Cert.KernelIdeal.Gen.V5_main_arg0 m (KernelIdeal.outs m) c)
    · exact (h.1 c _ (Finset.mem_filter.mpr ⟨StableHlo.devRef_mem_tcRefs Cert.KernelIdeal.main_arg1, by decide⟩)).trans
        (Cert.KernelIdeal.Gen.V5_main_arg1 m (KernelIdeal.outs m) c)
  · refine (θ_run _ _ _).mono (fun r h c => ⟨(h.1 c).1.trans ?_, (h.1 c).2⟩) (ref_run m' g')
    rw [Reference.final_result, (hm c).1, (hm c).2]
    funext x
    exact ((KernelIdeal.result m c x).trans (value_eq _ _ x)).symm

end Cert.Proof

end
-- ==== Proof.lean ====
/-
  The proof of the certificate's claim: the frames of the three programs, the named constants, and the equality of the
  kernel's result with the reference's at the extended reals.
-/
module

public import proofs.«01_k».proof.Defs
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, frame_p, frame_pi, frame_ri, preserves, algebraic⟩

end Cert.Proof

end
